-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_scores [hPre_finite_scores : Cert.Pre_finite_scores.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).1 = (fun _ => 1#1)
    ∧ (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.1 = (fun _ => 1#1)
    ∧ (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.1 = (fun _ => 1#1)
    ∧ (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.1 = (fun _ => 1#1)
    ∧ (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.1 = (fun _ => 1#1)
    ∧ (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_scores [hPre_finite_scores : Cert.Pre_finite_scores.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).1 = (fun _ => 1#1)
    ∧ (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.1 = (fun _ => 1#1)
    ∧ (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.1 = (fun _ => 1#1)
    ∧ (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.1 = (fun _ => 1#1)
    ∧ (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.1 = (fun _ => 1#1)
    ∧ (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_finite_scores [hKernel7Ideal : Cert.Kernel7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_scores m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_finite_scores [hReference7Ideal : Cert.Reference7Ideal.Facts] [hPre_finite_scores : Cert.Pre_finite_scores.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_scores m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_scores [hKernel7Ideal : Cert.Kernel7Ideal.Facts] [hReference7Ideal : Cert.Reference7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_scores m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v65) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v11)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v57) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_scores (hKernel7Ideal := hKernel7Ideal) (hPre_finite_scores := hPre_finite_scores)
    ∧ quiescent_Reference7Ideal (hReference7Ideal := hReference7Ideal)
    ∧ quiescent_Reference7Ideal_pre_finite_scores (hReference7Ideal := hReference7Ideal) (hPre_finite_scores := hPre_finite_scores)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_scores (hKernel7Ideal := hKernel7Ideal) (hReference7Ideal := hReference7Ideal) (hPre_finite_scores := hPre_finite_scores)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_scores.lean ====
abbrev S8192x4096 : Shape := ⟨2, ![8192, 4096]⟩
abbrev S4096 : Shape := ⟨1, ![4096]⟩
abbrev S4096x512 : Shape := ⟨2, ![4096, 512]⟩
abbrev S256x1024 : Shape := ⟨2, ![256, 1024]⟩
abbrev S512x4096 : Shape := ⟨2, ![512, 4096]⟩
abbrev S256x512 : Shape := ⟨2, ![256, 512]⟩
abbrev S_ : Shape := ⟨0, ![]⟩

class Facts : Prop where
  slices_S256x1024_S256x512_0_0 : S256x1024.Slices ![0, 0] S256x512
  bcast_S_S8192x4096 : S_.BroadcastsInDim S8192x4096 (![] : Fin 0 → Fin S8192x4096.rank)
  bcast_S_S4096 : S_.BroadcastsInDim S4096 (![] : Fin 0 → Fin S4096.rank)
  bcast_S_S4096x512 : S_.BroadcastsInDim S4096x512 (![] : Fin 0 → Fin S4096x512.rank)
  bcast_S_S256x512 : S_.BroadcastsInDim S256x512 (![] : Fin 0 → Fin S256x512.rank)

variable [Facts]

def fn_part1 {F : FTy → Type} [FloatOps F] (main_v3 : IVec S8192x4096 1) (main_v6 : IVec S8192x4096 1) (main_v9 : IVec S4096 1) (main_v12 : IVec S4096 1) (main_v15 : IVec S4096x512 1) (main_v16 : FVec F S256x512 .bf16) (main_v17 : FVec F S256x512 .bf16) : IVec S8192x4096 1 × IVec S8192x4096 1 × IVec S4096 1 × IVec S4096 1 × IVec S4096x512 1 × IVec S256x512 1 :=
  let main_v18 : IVec S256x512 1 := cmpf .olt main_v16 main_v17
  (main_v3, main_v6, main_v9, main_v12, main_v15, main_v18)

def fn {F : FTy → Type} [FloatOps F] (main_arg0 : FVec F S8192x4096 .f32) (main_arg1 : FVec F S8192x4096 .f32) (main_arg2 : FVec F S4096 .f32) (main_arg3 : FVec F S4096 .f32) (main_arg4 : FVec F S4096 .f32) (main_arg5 : FVec F S4096x512 .f32) (main_arg6 : FVec F S256x1024 .bf16) (main_arg7 : FVec F S512x4096 .f32) : IVec S8192x4096 1 × IVec S8192x4096 1 × IVec S4096 1 × IVec S4096 1 × IVec S4096x512 1 × IVec S256x512 1 :=
  let main_v0 : FVec F S256x512 .bf16 := (extractStridedSlice S256x512 ![0, 0] · slices_S256x1024_S256x512_0_0) main_arg6
  let main_v1 : FVec F S8192x4096 .f32 := Host.absf main_arg0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_v7 : FVec F S4096 .f32 := Host.absf main_arg2
  let main_cst_1 : FVec F S_ .f32 := constant S_ .f32 0x7F800000#32
  let main_v8 : FVec F S4096 .f32 := broadcastInDim S4096 ![] bcast_S_S4096 main_cst_1
  let main_v9 : IVec S4096 1 := cmpf .olt main_v7 main_v8
  let main_v10 : FVec F S4096 .f32 := Host.absf main_arg3
  let main_cst_2 : FVec F S_ .f32 := constant S_ .f32 0x7F800000#32
  let main_v11 : FVec F S4096 .f32 := broadcastInDim S4096 ![] bcast_S_S4096 main_cst_2
  let main_v12 : IVec S4096 1 := cmpf .olt main_v10 main_v11
  let main_v13 : FVec F S4096x512 .f32 := Host.absf main_arg5
  let main_cst_3 : FVec F S_ .f32 := constant S_ .f32 0x7F800000#32
  let main_v14 : FVec F S4096x512 .f32 := broadcastInDim S4096x512 ![] bcast_S_S4096x512 main_cst_3
  let main_v15 : IVec S4096x512 1 := cmpf .olt main_v13 main_v14
  let main_v16 : FVec F S256x512 .bf16 := Host.absf main_v0
  let main_cst_4 : FVec F S_ .bf16 := constant S_ .bf16 0x7F80#16
  let main_v17 : FVec F S256x512 .bf16 := broadcastInDim S256x512 ![] bcast_S_S256x512 main_cst_4
  fn_part1 (F := F) main_v3 main_v6 main_v9 main_v12 main_v15 main_v16 main_v17
-- ==== Kernel.lean ====
abbrev S8192x4096 : Shape := ⟨2, ![8192, 4096]⟩
abbrev S4096 : Shape := ⟨1, ![4096]⟩
abbrev S4096x16384 : Shape := ⟨2, ![4096, 16384]⟩
abbrev S16384x4096 : Shape := ⟨2, ![16384, 4096]⟩
abbrev S1x4096 : Shape := ⟨2, ![1, 4096]⟩
abbrev S1024x4096 : Shape := ⟨2, ![1024, 4096]⟩
abbrev S4096x512 : Shape := ⟨2, ![4096, 512]⟩
abbrev S512x4096 : Shape := ⟨2, ![512, 4096]⟩
abbrev S64x4096 : Shape := ⟨2, ![64, 4096]⟩
abbrev S64 : Shape := ⟨1, ![64]⟩
abbrev S64x1 : Shape := ⟨2, ![64, 1]⟩
abbrev S1024x512 : Shape := ⟨2, ![1024, 512]⟩

abbrev nBuf : Space → Nat
  | .hbm => 10
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S4096x16384, .f32⟩
  | .hbm, ⟨4, _⟩ => ⟨S16384x4096, .f32⟩
  | .hbm, ⟨5, _⟩ => ⟨S4096x16384, .bf16⟩
  | .hbm, ⟨6, _⟩ => ⟨S16384x4096, .bf16⟩
  | .hbm, ⟨7, _⟩ => ⟨S1x4096, .f32⟩
  | .hbm, ⟨8, _⟩ => ⟨S1x4096, .f32⟩
  | .hbm, ⟨9, _⟩ => ⟨S8192x4096, .f32⟩
  | .local _ .vmem, ⟨0, _⟩ => ⟨S1024x4096, .f32⟩
  | .local _ .vmem, ⟨1, _⟩ => ⟨S1x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S512x4096, .bf16⟩
  | .local _ .vmem, ⟨6, _⟩ => ⟨S512x4096, .bf16⟩
  | .local _ .vmem, ⟨7, _⟩ => ⟨S1024x4096, .f32⟩
  | .local _ .vmem, ⟨8, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c16_i32 : BitVec 32 := 16#32
  let v21 : BitVec 32 := Scalar.addi c0_i32_13 c16_i32
  let c1_i32 : BitVec 32 := 1#32
  ⟨c0_i32_13, v21, c1_i32⟩
def k0_mult1 (k0_t1 : Fin k0_t1_loop.trips) : BitVec 32 :=
  let c0_i32_13 : BitVec 32 := 0#32
  let c1_i32 : BitVec 32 := 1#32
  let arg9 : BitVec 32 := Scf.iv c0_i32_13 c1_i32 k0_t1
  let c64_i32 : BitVec 32 := 64#32
  let v22 : BitVec 32 := Scalar.muli arg9 c64_i32
  v22
def k0_off1 (k0_t1 : Fin k0_t1_loop.trips) : Fin 2 → Nat :=
  let c0_i32_13 : BitVec 32 := 0#32
  let c1_i32 : BitVec 32 := 1#32
  let arg9 : BitVec 32 := Scf.iv c0_i32_13 c1_i32 k0_t1
  let c64_i32 : BitVec 32 := 64#32
  let v22 : BitVec 32 := Scalar.muli arg9 c64_i32
  let v23 : BitVec 32 := v22
  let v24 : Index := Scalar.indexCast v23
  let c0_15 : Index := 0#32
  ![v24.toNat, 0]
def k0_cond2 (i : grid0.Coords) : BitVec 1 :=
  let arg1 : BitVec 32 := BitVec.ofNat 32 (i 1).val
  let c31_i32 : BitVec 32 := 31#32
  let v18 : BitVec 1 := Scalar.cmpi .eq arg1 c31_i32
  let v19 : BitVec 32 := Scalar.extui v18
  let c0_i32_12 : BitVec 32 := 0#32
  let v20 : BitVec 1 := Scalar.cmpi .ne v19 c0_i32_12
  v20

@[reducible] def k0_t2_loop : Scf.Loop 32 :=
  let c0_i32_13 : BitVec 32 := 0#32
  let c16_i32 : BitVec 32 := 16#32
  let v21 : BitVec 32 := Scalar.addi c0_i32_13 c16_i32
  let c1_i32 : BitVec 32 := 1#32
  ⟨c0_i32_13, v21, c1_i32⟩
def k0_mult2 (k0_t2 : Fin k0_t2_loop.trips) : BitVec 32 :=
  let c0_i32_13 : BitVec 32 := 0#32
  let c1_i32 : BitVec 32 := 1#32
  let arg9 : BitVec 32 := Scf.iv c0_i32_13 c1_i32 k0_t2
  let c64_i32 : BitVec 32 := 64#32
  let v22 : BitVec 32 := Scalar.muli arg9 c64_i32
  v22
def k0_off2 (k0_t2 : Fin k0_t2_loop.trips) : Fin 2 → Nat :=
  let c0_i32_13 : BitVec 32 := 0#32
  let c1_i32 : BitVec 32 := 1#32
  let arg9 : BitVec 32 := Scf.iv c0_i32_13 c1_i32 k0_t2
  let c64_i32 : BitVec 32 := 64#32
  let v22 : BitVec 32 := Scalar.muli arg9 c64_i32
  let v23 : BitVec 32 := v22
  let v24 : Index := Scalar.indexCast v23
  let c0_15 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== ReferenceIdeal.lean ====
abbrev S8192x4096 : Shape := ⟨2, ![8192, 4096]⟩
abbrev S4096 : Shape := ⟨1, ![4096]⟩
abbrev S4096x16384 : Shape := ⟨2, ![4096, 16384]⟩
abbrev S16384x4096 : Shape := ⟨2, ![16384, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x16384 : Shape := ⟨2, ![8192, 16384]⟩

abbrev nBuf : Space → Nat
  | .hbm => 44
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S4096x16384, .f32⟩
  | .hbm, ⟨4, _⟩ => ⟨S16384x4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x16384, .f32⟩
  | .hbm, ⟨22, _⟩ => ⟨S_, .f32⟩
  | .hbm, ⟨23, _⟩ => ⟨S8192x16384, .f32⟩
  | .hbm, ⟨24, _⟩ => ⟨S8192x16384, .f32⟩
  | .hbm, ⟨25, _⟩ => ⟨S8192x16384, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x4096, .f32⟩
  | .hbm, ⟨39, _⟩ => ⟨S8192x4096, .f32⟩
  | .hbm, ⟨40, _⟩ => ⟨S1x4096, .f32⟩
  | .hbm, ⟨41, _⟩ => ⟨S8192x4096, .f32⟩
  | .hbm, ⟨42, _⟩ => ⟨S8192x4096, .f32⟩
  | .hbm, ⟨43, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel2.lean ====
abbrev S8192x4096 : Shape := ⟨2, ![8192, 4096]⟩
abbrev S4096x11312 : Shape := ⟨2, ![4096, 11312]⟩
abbrev S3x2048 : Shape := ⟨2, ![3, 2048]⟩
abbrev S4096x6144 : Shape := ⟨2, ![4096, 6144]⟩
abbrev S8192x2048 : Shape := ⟨2, ![8192, 2048]⟩
abbrev S1024x4096 : Shape := ⟨2, ![1024, 4096]⟩
abbrev S4096x512 : Shape := ⟨2, ![4096, 512]⟩
abbrev S3x512 : Shape := ⟨2, ![3, 512]⟩
abbrev S1024x512 : Shape := ⟨2, ![1024, 512]⟩
abbrev S4x8x512 : Shape := ⟨3, ![4, 8, 512]⟩
abbrev S1x512 : Shape := ⟨2, ![1, 512]⟩
abbrev S8x512 : Shape := ⟨2, ![8, 512]⟩
abbrev S1x8x512 : Shape := ⟨3, ![1, 8, 512]⟩
abbrev S16x512 : Shape := ⟨2, ![16, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S4096x11312, .f32⟩
  | .hbm, ⟨2, _⟩ => ⟨S3x2048, .f32⟩
  | .hbm, ⟨3, _⟩ => ⟨S4096x6144, .f32⟩
  | .hbm, ⟨4, _⟩ => ⟨S4096x6144, .bf16⟩
  | .hbm, ⟨5, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S3x512, .f32⟩
  | .local _ .vmem, ⟨9, _⟩ => ⟨S3x512, .f32⟩
  | .local _ .vmem, ⟨10, _⟩ => ⟨S1024x512, .bf16⟩
  | .local _ .vmem, ⟨11, _⟩ => ⟨S1024x512, .bf16⟩
  | .local _ .vmem, ⟨12, _⟩ => ⟨S4x8x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v28 : BitVec 1 := Scalar.cmpi .eq arg0 c0_i32
  let v29 : BitVec 32 := Scalar.extui v28
  let c0_i32_13 : BitVec 32 := 0#32
  let v30 : BitVec 1 := Scalar.cmpi .ne v29 c0_i32_13
  v30

def k0_off1 (i : grid0.Coords) : Fin 3 → Nat :=
  let arg1 : BitVec 32 := BitVec.ofNat 32 (i 1).val
  let v59 : Index := Scalar.indexCast arg1
  let c0_23 : Index := 0#32
  let c0_24 : Index := 0#32
  ![v59.toNat, 0, 0]
def k0_off2 (i : grid0.Coords) : Fin 3 → Nat :=
  let arg1 : BitVec 32 := BitVec.ofNat 32 (i 1).val
  let v31 : Index := Scalar.indexCast arg1
  let c0_14 : Index := 0#32
  let c0_15 : Index := 0#32
  ![v31.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x4096 : Shape := ⟨2, ![8192, 4096]⟩
abbrev S4096x11312 : Shape := ⟨2, ![4096, 11312]⟩
abbrev S3x2048 : Shape := ⟨2, ![3, 2048]⟩
abbrev S4096x6144 : Shape := ⟨2, ![4096, 6144]⟩
abbrev S8192x6144 : Shape := ⟨2, ![8192, 6144]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8194x2048 : Shape := ⟨2, ![8194, 2048]⟩
abbrev S8193x2048 : Shape := ⟨2, ![8193, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11312, .f32⟩
  | .hbm, ⟨2, _⟩ => ⟨S3x2048, .f32⟩
  | .hbm, ⟨3, _⟩ => ⟨S8192x4096, .f32⟩
  | .hbm, ⟨4, _⟩ => ⟨S4096x6144, .f32⟩
  | .hbm, ⟨5, _⟩ => ⟨S8192x6144, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S1x2048, .f32⟩
  | .hbm, ⟨11, _⟩ => ⟨S2048, .f32⟩
  | .hbm, ⟨12, _⟩ => ⟨S_, .i32⟩
  | .hbm, ⟨13, _⟩ => ⟨S_, .f32⟩
  | .hbm, ⟨14, _⟩ => ⟨S8194x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S2048, .f32⟩
  | .hbm, ⟨21, _⟩ => ⟨S_, .i32⟩
  | .hbm, ⟨22, _⟩ => ⟨S_, .f32⟩
  | .hbm, ⟨23, _⟩ => ⟨S8193x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_call1_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel3.lean ====
abbrev S8192x4096 : Shape := ⟨2, ![8192, 4096]⟩
abbrev S4096x11312 : Shape := ⟨2, ![4096, 11312]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x11312, .f32⟩
  | .hbm, ⟨2, _⟩ => ⟨S4096x11312, .bf16⟩
  | .hbm, ⟨3, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x4096 : Shape := ⟨2, ![8192, 4096]⟩
abbrev S4096x11312 : Shape := ⟨2, ![4096, 11312]⟩
abbrev S4096x2048 : Shape := ⟨2, ![4096, 2048]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11312, .f32⟩
  | .hbm, ⟨2, _⟩ => ⟨S8192x4096, .f32⟩
  | .hbm, ⟨3, _⟩ => ⟨S4096x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x4096 : Shape := ⟨2, ![8192, 4096]⟩
abbrev S4096x11312 : Shape := ⟨2, ![4096, 11312]⟩
abbrev S8192x1024 : Shape := ⟨2, ![8192, 1024]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x11312, .f32⟩
  | .hbm, ⟨2, _⟩ => ⟨S4096x11312, .bf16⟩
  | .hbm, ⟨3, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S4096x11312 : Shape := ⟨2, ![4096, 11312]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11312, .f32⟩
  | .hbm, ⟨2, _⟩ => ⟨S8192x4096, .f32⟩
  | .hbm, ⟨3, _⟩ => ⟨S4096x1024, .f32⟩
  | .hbm, ⟨4, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8192x4096 : Shape := ⟨2, ![8192, 4096]⟩
abbrev S4096x11312 : Shape := ⟨2, ![4096, 11312]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x11312, .f32⟩
  | .hbm, ⟨2, _⟩ => ⟨S4096x11312, .bf16⟩
  | .hbm, ⟨3, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x4096 : Shape := ⟨2, ![8192, 4096]⟩
abbrev S4096x11312 : Shape := ⟨2, ![4096, 11312]⟩
abbrev S4096x2048 : Shape := ⟨2, ![4096, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11312, .f32⟩
  | .hbm, ⟨2, _⟩ => ⟨S8192x4096, .f32⟩
  | .hbm, ⟨3, _⟩ => ⟨S4096x2048, .f32⟩
  | .hbm, ⟨4, _⟩ => ⟨S8192x2048, .f32⟩
  | .hbm, ⟨5, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x2048 : Shape := ⟨2, ![8192, 2048]⟩
abbrev S4096x4096 : Shape := ⟨2, ![4096, 4096]⟩
abbrev S8192x4096 : Shape := ⟨2, ![8192, 4096]⟩
abbrev S1024x2048 : Shape := ⟨2, ![1024, 2048]⟩
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S4096x4096, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x1024, .bf16⟩
  | .local _ .vmem, ⟨5, _⟩ => ⟨S4096x1024, .bf16⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x2048 : Shape := ⟨2, ![8192, 2048]⟩
abbrev S4096x4096 : Shape := ⟨2, ![4096, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .bf16⟩
  | .hbm, ⟨4, _⟩ => ⟨S8192x4096, .f32⟩
  | .hbm, ⟨5, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x4096 : Shape := ⟨2, ![8192, 4096]⟩
abbrev S4096 : Shape := ⟨1, ![4096]⟩
abbrev S4096x512 : Shape := ⟨2, ![4096, 512]⟩
abbrev S256x1024 : Shape := ⟨2, ![256, 1024]⟩
abbrev S512x4096 : Shape := ⟨2, ![512, 4096]⟩
abbrev S1x4096 : Shape := ⟨2, ![1, 4096]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S256x256 : Shape := ⟨2, ![256, 256]⟩

abbrev nBuf : Space → Nat
  | .hbm => 14
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x512, .f32⟩
  | .hbm, ⟨6, _⟩ => ⟨S256x1024, .bf16⟩
  | .hbm, ⟨7, _⟩ => ⟨S512x4096, .f32⟩
  | .hbm, ⟨8, _⟩ => ⟨S4096x512, .bf16⟩
  | .hbm, ⟨9, _⟩ => ⟨S512x4096, .bf16⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S4096x512, .bf16⟩
  | .local _ .vmem, ⟨8, _⟩ => ⟨S256x512, .bf16⟩
  | .local _ .vmem, ⟨9, _⟩ => ⟨S256x512, .bf16⟩
  | .local _ .vmem, ⟨10, _⟩ => ⟨S512x4096, .bf16⟩
  | .local _ .vmem, ⟨11, _⟩ => ⟨S256x4096, .f32⟩
  | .local _ .vmem, ⟨12, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S8192x4096 : Shape := ⟨2, ![8192, 4096]⟩
abbrev S4096 : Shape := ⟨1, ![4096]⟩
abbrev S4096x512 : Shape := ⟨2, ![4096, 512]⟩
abbrev S256x1024 : Shape := ⟨2, ![256, 1024]⟩
abbrev S512x4096 : Shape := ⟨2, ![512, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x512 : Shape := ⟨2, ![8192, 512]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 87
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x512, .f32⟩
  | .hbm, ⟨6, _⟩ => ⟨S256x1024, .bf16⟩
  | .hbm, ⟨7, _⟩ => ⟨S512x4096, .f32⟩
  | .hbm, ⟨8, _⟩ => ⟨S8192x4096, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S8192x512, .f32⟩
  | .hbm, ⟨42, _⟩ => ⟨S8192x4x128, .f32⟩
  | .hbm, ⟨43, _⟩ => ⟨S256x1024, .f32⟩
  | .hbm, ⟨44, _⟩ => ⟨S256x512, .f32⟩
  | .hbm, ⟨45, _⟩ => ⟨S256x512, .f32⟩
  | .hbm, ⟨46, _⟩ => ⟨S256x4x128, .f32⟩
  | .hbm, ⟨47, _⟩ => ⟨S256x4x128, .f32⟩
  | .hbm, ⟨48, _⟩ => ⟨S4x8192x256, .f32⟩
  | .hbm, ⟨49, _⟩ => ⟨S_, .f32⟩
  | .hbm, ⟨50, _⟩ => ⟨S4x8192x256, .f32⟩
  | .hbm, ⟨51, _⟩ => ⟨S4x8192x256, .f32⟩
  | .hbm, ⟨52, _⟩ => ⟨S_, .f32⟩
  | .hbm, ⟨53, _⟩ => ⟨S4x8192, .f32⟩
  | .hbm, ⟨54, _⟩ => ⟨S_, .f32⟩
  | .hbm, ⟨55, _⟩ => ⟨S4x8192, .f32⟩
  | .hbm, ⟨56, _⟩ => ⟨S4x8192, .f32⟩
  | .hbm, ⟨57, _⟩ => ⟨S4x8192x1, .f32⟩
  | .hbm, ⟨58, _⟩ => ⟨S4x8192x256, .f32⟩
  | .hbm, ⟨59, _⟩ => ⟨S4x8192x256, .f32⟩
  | .hbm, ⟨60, _⟩ => ⟨S4x8192x256, .f32⟩
  | .hbm, ⟨61, _⟩ => ⟨S_, .f32⟩
  | .hbm, ⟨62, _⟩ => ⟨S4x8192, .f32⟩
  | .hbm, ⟨63, _⟩ => ⟨S4x8192x1, .f32⟩
  | .hbm, ⟨64, _⟩ => ⟨S4x8192x256, .f32⟩
  | .hbm, ⟨65, _⟩ => ⟨S4x8192x256, .f32⟩
  | .hbm, ⟨66, _⟩ => ⟨S4x128x8192, .f32⟩
  | .hbm, ⟨67, _⟩ => ⟨S8192x4x128, .f32⟩
  | .hbm, ⟨68, _⟩ => ⟨S8192x512, .f32⟩
  | .hbm, ⟨69, _⟩ => ⟨S8192x4096, .f32⟩
  | .hbm, ⟨70, _⟩ => ⟨S8192x4096, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S8192x1, .f32⟩
  | .hbm, ⟨81, _⟩ => ⟨S8192x4096, .f32⟩
  | .hbm, ⟨82, _⟩ => ⟨S8192x4096, .f32⟩
  | .hbm, ⟨83, _⟩ => ⟨S1x4096, .f32⟩
  | .hbm, ⟨84, _⟩ => ⟨S8192x4096, .f32⟩
  | .hbm, ⟨85, _⟩ => ⟨S8192x4096, .f32⟩
  | .hbm, ⟨86, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Kernel8.lean ====
abbrev S256x4096 : Shape := ⟨2, ![256, 4096]⟩
abbrev S4096x512 : Shape := ⟨2, ![4096, 512]⟩
abbrev S4096x1024 : Shape := ⟨2, ![4096, 1024]⟩
abbrev S256x1024 : Shape := ⟨2, ![256, 1024]⟩

abbrev nBuf : Space → Nat
  | .hbm => 6
  | .vmem => 3
  | .smem => 0
  | _ => 0

abbrev bufTy : (tb : Table) → Fin (tcTables nBuf tb) → BufTy
  | .hbm, ⟨0, _⟩ => ⟨S256x4096, .bf16⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S4096x1024, .bf16⟩
  | .hbm, ⟨5, _⟩ => ⟨S256x1024, .bf16⟩
  | .local _ .vmem, ⟨0, _⟩ => ⟨S256x4096, .bf16⟩
  | .local _ .vmem, ⟨1, _⟩ => ⟨S4096x1024, .bf16⟩
  | .local _ .vmem, ⟨2, _⟩ => ⟨S256x1024, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference8Ideal.lean ====
abbrev S256x4096 : Shape := ⟨2, ![256, 4096]⟩
abbrev S4096x512 : Shape := ⟨2, ![4096, 512]⟩
abbrev S256x512 : Shape := ⟨2, ![256, 512]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S4096x512, .f32⟩
  | .hbm, ⟨2, _⟩ => ⟨S4096x512, .f32⟩
  | .hbm, ⟨3, _⟩ => ⟨S256x4096, .f32⟩
  | .hbm, ⟨4, _⟩ => ⟨S256x512, .f32⟩
  | .hbm, ⟨5, _⟩ => ⟨S256x512, .f32⟩
  | .hbm, ⟨6, _⟩ => ⟨S256x1024, .f32⟩
  | .hbm, ⟨7, _⟩ => ⟨S256x1024, .bf16⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel10.lean ====
abbrev S8192x1024 : Shape := ⟨2, ![8192, 1024]⟩
abbrev S32x128 : Shape := ⟨2, ![32, 128]⟩
abbrev S4096x128 : Shape := ⟨2, ![4096, 128]⟩
abbrev S128x128 : Shape := ⟨2, ![128, 128]⟩
abbrev S1x32x128 : Shape := ⟨3, ![1, 32, 128]⟩
abbrev S2x32x128 : Shape := ⟨3, ![2, 32, 128]⟩
abbrev S1x4096x128 : Shape := ⟨3, ![1, 4096, 128]⟩
abbrev S2x4096x128 : Shape := ⟨3, ![2, 4096, 128]⟩
abbrev S1x128x128 : Shape := ⟨3, ![1, 128, 128]⟩
abbrev S2x128x128 : Shape := ⟨3, ![2, 128, 128]⟩
abbrev S2x4x512x128 : Shape := ⟨4, ![2, 4, 512, 128]⟩
abbrev S8192x128 : Shape := ⟨2, ![8192, 128]⟩
abbrev S1x1x512x128 : Shape := ⟨4, ![1, 1, 512, 128]⟩
abbrev S512x128 : Shape := ⟨2, ![512, 128]⟩
abbrev S1x1x128 : Shape := ⟨3, ![1, 1, 128]⟩
abbrev S1x128 : Shape := ⟨2, ![1, 128]⟩

abbrev nBuf : Space → Nat
  | .hbm => 19
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S32x128, .f32⟩
  | .hbm, ⟨2, _⟩ => ⟨S4096x128, .f32⟩
  | .hbm, ⟨3, _⟩ => ⟨S128x128, .f32⟩
  | .hbm, ⟨4, _⟩ => ⟨S32x128, .f32⟩
  | .hbm, ⟨5, _⟩ => ⟨S4096x128, .f32⟩
  | .hbm, ⟨6, _⟩ => ⟨S128x128, .f32⟩
  | .hbm, ⟨7, _⟩ => ⟨S1x32x128, .f32⟩
  | .hbm, ⟨8, _⟩ => ⟨S1x32x128, .f32⟩
  | .hbm, ⟨9, _⟩ => ⟨S2x32x128, .f32⟩
  | .hbm, ⟨10, _⟩ => ⟨S1x4096x128, .f32⟩
  | .hbm, ⟨11, _⟩ => ⟨S1x4096x128, .f32⟩
  | .hbm, ⟨12, _⟩ => ⟨S2x4096x128, .f32⟩
  | .hbm, ⟨13, _⟩ => ⟨S2x4096x128, .bf16⟩
  | .hbm, ⟨14, _⟩ => ⟨S1x128x128, .f32⟩
  | .hbm, ⟨15, _⟩ => ⟨S1x128x128, .f32⟩
  | .hbm, ⟨16, _⟩ => ⟨S2x128x128, .f32⟩
  | .hbm, ⟨17, _⟩ => ⟨S2x128x128, .bf16⟩
  | .hbm, ⟨18, _⟩ => ⟨S2x4x512x128, .bf16⟩
  | .local _ .vmem, ⟨0, _⟩ => ⟨S8192x128, .f32⟩
  | .local _ .vmem, ⟨1, _⟩ => ⟨S8192x128, .f32⟩
  | .local _ .vmem, ⟨2, _⟩ => ⟨S1x32x128, .f32⟩
  | .local _ .vmem, ⟨3, _⟩ => ⟨S1x32x128, .f32⟩
  | .local _ .vmem, ⟨4, _⟩ => ⟨S1x4096x128, .bf16⟩
  | .local _ .vmem, ⟨5, _⟩ => ⟨S1x4096x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x1x512x128, .bf16⟩
  | .local _ .vmem, ⟨9, _⟩ => ⟨S1x1x512x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S8192x1024 : Shape := ⟨2, ![8192, 1024]⟩
abbrev S32x128 : Shape := ⟨2, ![32, 128]⟩
abbrev S4096x128 : Shape := ⟨2, ![4096, 128]⟩
abbrev S128x128 : Shape := ⟨2, ![128, 128]⟩
abbrev S8192x512 : Shape := ⟨2, ![8192, 512]⟩
abbrev S8192x4x128 : Shape := ⟨3, ![8192, 4, 128]⟩
abbrev S512x16x4x128 : Shape := ⟨4, ![512, 16, 4, 128]⟩
abbrev S8176x4x128 : Shape := ⟨3, ![8176, 4, 128]⟩
abbrev S16x4x128 : Shape := ⟨3, ![16, 4, 128]⟩
abbrev S512x32x4x128 : Shape := ⟨4, ![512, 32, 4, 128]⟩
abbrev S32x1x128 : Shape := ⟨3, ![32, 1, 128]⟩
abbrev S1x32x1x128 : Shape := ⟨4, ![1, 32, 1, 128]⟩
abbrev S4x512x32x128 : Shape := ⟨4, ![4, 512, 32, 128]⟩
abbrev S4x512x4096 : Shape := ⟨3, ![4, 512, 4096]⟩
abbrev S4x512x128 : Shape := ⟨3, ![4, 512, 128]⟩
abbrev S_ : Shape := ⟨0, ![]⟩
abbrev S1x4x512x128 : Shape := ⟨4, ![1, 4, 512, 128]⟩
abbrev S2x4x512x128 : Shape := ⟨4, ![2, 4, 512, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S32x128, .f32⟩
  | .hbm, ⟨2, _⟩ => ⟨S4096x128, .f32⟩
  | .hbm, ⟨3, _⟩ => ⟨S128x128, .f32⟩
  | .hbm, ⟨4, _⟩ => ⟨S32x128, .f32⟩
  | .hbm, ⟨5, _⟩ => ⟨S4096x128, .f32⟩
  | .hbm, ⟨6, _⟩ => ⟨S128x128, .f32⟩
  | .hbm, ⟨7, _⟩ => ⟨S8192x512, .f32⟩
  | .hbm, ⟨8, _⟩ => ⟨S8192x4x128, .f32⟩
  | .hbm, ⟨9, _⟩ => ⟨S512x16x4x128, .f32⟩
  | .hbm, ⟨10, _⟩ => ⟨S8176x4x128, .f32⟩
  | .hbm, ⟨11, _⟩ => ⟨S16x4x128, .f32⟩
  | .hbm, ⟨12, _⟩ => ⟨S8192x4x128, .f32⟩
  | .hbm, ⟨13, _⟩ => ⟨S512x16x4x128, .f32⟩
  | .hbm, ⟨14, _⟩ => ⟨S512x32x4x128, .f32⟩
  | .hbm, ⟨15, _⟩ => ⟨S32x1x128, .f32⟩
  | .hbm, ⟨16, _⟩ => ⟨S1x32x1x128, .f32⟩
  | .hbm, ⟨17, _⟩ => ⟨S512x32x4x128, .f32⟩
  | .hbm, ⟨18, _⟩ => ⟨S512x32x4x128, .f32⟩
  | .hbm, ⟨19, _⟩ => ⟨S4x512x32x128, .f32⟩
  | .hbm, ⟨20, _⟩ => ⟨S4x512x4096, .f32⟩
  | .hbm, ⟨21, _⟩ => ⟨S4x512x128, .f32⟩
  | .hbm, ⟨22, _⟩ => ⟨S4x512x128, .f32⟩
  | .hbm, ⟨23, _⟩ => ⟨S4x512x128, .f32⟩
  | .hbm, ⟨24, _⟩ => ⟨S_, .f32⟩
  | .hbm, ⟨25, _⟩ => ⟨S4x512x128, .f32⟩
  | .hbm, ⟨26, _⟩ => ⟨S4x512x128, .f32⟩
  | .hbm, ⟨27, _⟩ => ⟨S4x512x128, .f32⟩
  | .hbm, ⟨28, _⟩ => ⟨S_, .f32⟩
  | .hbm, ⟨29, _⟩ => ⟨S4x512x128, .f32⟩
  | .hbm, ⟨30, _⟩ => ⟨S4x512x128, .f32⟩
  | .hbm, ⟨31, _⟩ => ⟨S4x512x128, .f32⟩
  | .hbm, ⟨32, _⟩ => ⟨S_, .f32⟩
  | .hbm, ⟨33, _⟩ => ⟨S4x512x128, .f32⟩
  | .hbm, ⟨34, _⟩ => ⟨S4x512x128, .f32⟩
  | .hbm, ⟨35, _⟩ => ⟨S_, .f32⟩
  | .hbm, ⟨36, _⟩ => ⟨S4x512x128, .f32⟩
  | .hbm, ⟨37, _⟩ => ⟨S4x512x128, .f32⟩
  | .hbm, ⟨38, _⟩ => ⟨S4x512x128, .f32⟩
  | .hbm, ⟨39, _⟩ => ⟨S4x512x128, .f32⟩
  | .hbm, ⟨40, _⟩ => ⟨S8192x512, .f32⟩
  | .hbm, ⟨41, _⟩ => ⟨S8192x4x128, .f32⟩
  | .hbm, ⟨42, _⟩ => ⟨S512x16x4x128, .f32⟩
  | .hbm, ⟨43, _⟩ => ⟨S8176x4x128, .f32⟩
  | .hbm, ⟨44, _⟩ => ⟨S16x4x128, .f32⟩
  | .hbm, ⟨45, _⟩ => ⟨S8192x4x128, .f32⟩
  | .hbm, ⟨46, _⟩ => ⟨S512x16x4x128, .f32⟩
  | .hbm, ⟨47, _⟩ => ⟨S512x32x4x128, .f32⟩
  | .hbm, ⟨48, _⟩ => ⟨S32x1x128, .f32⟩
  | .hbm, ⟨49, _⟩ => ⟨S1x32x1x128, .f32⟩
  | .hbm, ⟨50, _⟩ => ⟨S512x32x4x128, .f32⟩
  | .hbm, ⟨51, _⟩ => ⟨S512x32x4x128, .f32⟩
  | .hbm, ⟨52, _⟩ => ⟨S4x512x32x128, .f32⟩
  | .hbm, ⟨53, _⟩ => ⟨S4x512x4096, .f32⟩
  | .hbm, ⟨54, _⟩ => ⟨S4x512x128, .f32⟩
  | .hbm, ⟨55, _⟩ => ⟨S4x512x128, .f32⟩
  | .hbm, ⟨56, _⟩ => ⟨S4x512x128, .f32⟩
  | .hbm, ⟨57, _⟩ => ⟨S_, .f32⟩
  | .hbm, ⟨58, _⟩ => ⟨S4x512x128, .f32⟩
  | .hbm, ⟨59, _⟩ => ⟨S4x512x128, .f32⟩
  | .hbm, ⟨60, _⟩ => ⟨S4x512x128, .f32⟩
  | .hbm, ⟨61, _⟩ => ⟨S_, .f32⟩
  | .hbm, ⟨62, _⟩ => ⟨S4x512x128, .f32⟩
  | .hbm, ⟨63, _⟩ => ⟨S4x512x128, .f32⟩
  | .hbm, ⟨64, _⟩ => ⟨S4x512x128, .f32⟩
  | .hbm, ⟨65, _⟩ => ⟨S_, .f32⟩
  | .hbm, ⟨66, _⟩ => ⟨S4x512x128, .f32⟩
  | .hbm, ⟨67, _⟩ => ⟨S4x512x128, .f32⟩
  | .hbm, ⟨68, _⟩ => ⟨S_, .f32⟩
  | .hbm, ⟨69, _⟩ => ⟨S4x512x128, .f32⟩
  | .hbm, ⟨70, _⟩ => ⟨S4x512x128, .f32⟩
  | .hbm, ⟨71, _⟩ => ⟨S4x512x128, .f32⟩
  | .hbm, ⟨72, _⟩ => ⟨S4x512x128, .f32⟩
  | .hbm, ⟨73, _⟩ => ⟨S1x4x512x128, .f32⟩
  | .hbm, ⟨74, _⟩ => ⟨S1x4x512x128, .f32⟩
  | .hbm, ⟨75, _⟩ => ⟨S2x4x512x128, .f32⟩
  | .hbm, ⟨76, _⟩ => ⟨S2x4x512x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_v0 : Ref sig .tc := ⟨.hbm, 43, rfl⟩
abbrev main_call1_v1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Kernel11.lean ====
abbrev S8192x4096 : Shape := ⟨2, ![8192, 4096]⟩
abbrev S4096x11312 : Shape := ⟨2, ![4096, 11312]⟩
abbrev S8192x128 : Shape := ⟨2, ![8192, 128]⟩
abbrev S1024x4096 : Shape := ⟨2, ![1024, 4096]⟩
abbrev S4096x128 : Shape := ⟨2, ![4096, 128]⟩
abbrev S1024x128 : Shape := ⟨2, ![1024, 128]⟩
abbrev S8192x48 : Shape := ⟨2, ![8192, 48]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x11312, .f32⟩
  | .hbm, ⟨2, _⟩ => ⟨S4096x11312, .bf16⟩
  | .hbm, ⟨3, _⟩ => ⟨S8192x128, .f32⟩
  | .hbm, ⟨4, _⟩ => ⟨S8192x48, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi arg1 c40_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x4096 : Shape := ⟨2, ![8192, 4096]⟩
abbrev S4096x11312 : Shape := ⟨2, ![4096, 11312]⟩
abbrev S4096x48 : Shape := ⟨2, ![4096, 48]⟩
abbrev S8192x48 : Shape := ⟨2, ![8192, 48]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11312, .f32⟩
  | .hbm, ⟨2, _⟩ => ⟨S8192x4096, .f32⟩
  | .hbm, ⟨3, _⟩ => ⟨S4096x48, .f32⟩
  | .hbm, ⟨4, _⟩ => ⟨S8192x48, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Rows.lean ====
module

public import Idealize.ShloMosaic.Lib.Pointwise
public import Idealize.ShloMosaic.Lib.ValueIdx
public import Idealize.ShloMosaic.Lib.Pipeline.ValueKit
public import Idealize.ShloMosaic.Lib.WritesUnit
public import Idealize.ShloMosaic.Lib.WholeRead
public import Idealize.ShloMosaic.Lib.VecWindow

/-! What the calls of the layer share: a row times a column of weights, a row normalised, and how a row or column of an array is
met in its blocks of 1024. -/

@[expose] public section

noncomputable section

namespace Cert.Proof.Rows

open Idealize.ShloMosaic Idealize.ShloMosaic.TcCoe Idealize.SL.Sem
open scoped BigOperators

/-- One entry of a product: the row of 4096 activations times a column of the weights. -/
def dot4096 {n p : ℕ} (a : Fin n → Fin 4096 → EReal) (w : Fin 4096 → Fin p → EReal) (r : Fin n) (d : Fin p) : EReal :=
  ∑ k : Fin 4096, a r k * w k d

/-- The reciprocal of a row's root mean square, from the sum of the row's squares: what both programs compute with
    the same two literals (4096 and 1e-6). -/
def rstd (q : EReal) : EReal :=
  Ideal.rsqrt (Ideal.div q (Ideal.ofBits .f32 0x45800000#32) + Ideal.ofBits .f32 0x358637BD#32)

/-- Entry `d` of a row of 4096 numbers after RMS normalisation with the gain `g` for that entry. -/
def rms (row : Fin 4096 → EReal) (g : EReal) (d : Fin 4096) : EReal :=
  row d * rstd (∑ k, row k * row k) * g

/-- The place of an index in its block of 1024. -/
abbrev inBlock (n : ℕ) : Fin 1024 := ⟨n % 1024, Nat.mod_lt _ (by norm_num)⟩

/-- Block and place in it give the index back. -/
theorem block_add (q n : ℕ) (h : q = n / 1024) : 1024 * q + (inBlock n).val = n := by
  subst h; exact Nat.div_add_mod n 1024

end Cert.Proof.Rows
end
-- ==== Proof.MlpPure.lean ====
module

public import proofs.«01_k».proof.Proof.Gen.KernelIdeal.Skeleton
public import proofs.«01_k».proof.Proof.Gen.ReferenceIdeal.Run
public import proofs.«01_k».proof.Proof.Rows

/-! The stores of the MLP's kernel function, each read at an index: the strip normalised, the strip zeroed, the product of
one hidden block added, the strip of the residual plus the normalised product. -/

@[expose] public section

set_option maxRecDepth 16384

noncomputable section

namespace Cert.Proof.Mlp

open Cert.Proof.Rows
open Idealize.ShloMosaic Idealize.ShloMosaic.TcCoe Idealize.SL.Sem
open scoped BigOperators

section Kernel
open Cert.KernelIdeal Cert.KernelIdeal.Gen

/-- The strip that the first loop stores into the scratch: the normalised rows. -/
theorem pay1_apply (x : FVec Ideal S64x4096 .f32) (g : FVec Ideal S1x4096 .f32) (r : Fin 64) (d : Fin 4096) :
    k0_pay1 (F := Ideal) x g (ix2 r d) = rms (fun k => x (ix2 r k)) (g (ix2 0 d)) d := by
  unfold rms rstd
  pointwise [k0_pay1]

/-- The strip that the first loop stores into the result: zeros. -/
theorem pay2_apply (r : Fin 64) (d : Fin 4096) : k0_pay2 (F := Ideal) (ix2 r d) = (0 : EReal) := by
  pointwise [k0_pay2]

/-- One point's product added to what the result block held. -/
theorem pay3_apply (xn : FVec Ideal S1024x4096 .bf16) (wu : FVec Ideal S4096x512 .bf16) (o : FVec Ideal S1024x4096 .f32)
    (wd : FVec Ideal S512x4096 .bf16) (r : Fin 1024) (d : Fin 4096) :
    k0_pay3 (F := Ideal) xn wu o wd (ix2 r d)
      = o (ix2 r d) + ∑ h : Fin 512, (max (∑ k : Fin 4096, xn (ix2 r k) * wu (ix2 k h)) 0
          * max (∑ k : Fin 4096, xn (ix2 r k) * wu (ix2 k h)) 0) * wd (ix2 h d) := by
  pointwise [k0_pay3]

/-- The strip that the second loop stores: the residual plus the normalised rows of the block. -/
theorem pay4_apply (x o : FVec Ideal S64x4096 .f32) (g : FVec Ideal S1x4096 .f32) (r : Fin 64) (d : Fin 4096) :
    k0_pay4 (F := Ideal) x o g (ix2 r d) = x (ix2 r d) + rms (fun k => o (ix2 r k)) (g (ix2 0 d)) d := by
  unfold rms rstd
  pointwise [k0_pay4]

end Kernel
end Cert.Proof.Mlp
end
-- ==== Proof.MlpLoops.lean ====
module

public import proofs.«01_k».proof.Proof.MlpPure
public import proofs.«01_k».proof.Proof.Gen.KernelIdeal.Value
public import Idealize.ShloMosaic.Lib.Pipeline.ValueKit
public import Idealize.ShloMosaic.Lib.WritesUnit
public import Idealize.ShloMosaic.Lib.WholeRead
public import Idealize.ShloMosaic.Lib.VecWindow

/-! The two counted loops of the MLP's kernel function, read at an index. Each loop walks a block of 1024 rows in sixteen
strips of 64 rows and stores one strip of whole rows a trip, so after `k` trips the rows below `64 * k` are the ones
stored. The first loop normalises the activations into the scratch and zeroes the result block; the second one adds the
residual to the normalised result block. -/

@[expose] public section

set_option maxRecDepth 16384

noncomputable section

namespace Cert.Proof.Mlp

open Cert.Proof.Rows
open Idealize.ShloMosaic Idealize.ShloMosaic.TcCoe Idealize.SL.Sem Idealize.ShloMosaic.Tactic
open Cert.KernelIdeal Cert.KernelIdeal.Gen
open scoped BigOperators

/-- Every row below `64 * (k + 1)` and not below `64 * k` is a row of strip `k`. -/
theorem strip_local (k : ℕ) (y : Fin 1024) (h : y.val < 64 * (k + 1)) (h' : ¬ y.val < 64 * k) :
    ∃ r : Fin 64, y.val = 64 * k + r.val := ⟨⟨y.val - 64 * k, by omega⟩, by show y.val = 64 * k + (y.val - 64 * k); omega⟩

section Loops

variable (𝒱 : Variants) (c : Dev nD) (bd : Option 𝒱.V) (i : grid0.Coords)
  (arg2 : Memref sig .tc .vmem S1024x4096 .f32) (harg2 : arg2.IsWhole)
  (arg3 : Memref sig .tc .vmem S1x4096 .f32) (harg3 : arg3.IsWhole)
  (arg4 : Memref sig .tc .vmem S1x4096 .f32) (harg4 : arg4.IsWhole)
  (arg5 : Memref sig .tc .vmem S4096x512 .bf16) (harg5 : arg5.IsWhole)
  (arg6 : Memref sig .tc .vmem S512x4096 .bf16) (harg6 : arg6.IsWhole)
  (arg7 : Memref sig .tc .vmem S1024x4096 .f32) (harg7 : arg7.IsWhole)
  (arg8 : Memref sig .tc .vmem S1024x4096 .bf16) (harg8 : arg8.IsWhole)

/-- What one trip of the first loop stores into the scratch: the strip's normalised rows. -/
theorem trip1_scratch (h : k0_cond1 i = 1#1) (X2 : BufTy.Contents (Elt Ideal) arg2.view.ty)
    (X3 : BufTy.Contents (Elt Ideal) arg3.view.ty) (k : Fin k0_t1_loop.trips) :
    (tripL_k0_t1 (F := Ideal) 𝒱 c bd i arg2 harg2 arg3 harg3 arg4 harg4 arg5 harg5 arg6 harg6 arg7 harg7 arg8 harg8 h X2 X3 k).2
      = [⟨Rect.unit (s := S1024x4096) (k0_off1 k) S64x4096.size (k0_off1_inb i k h),
          k0_pay1 (arg2.view.readAt (Elt Ideal) (Rect.unit (s := S1024x4096) (k0_off1 k) S64x4096.size (k0_off1_inb i k h)).toLoadRect X2)
            (arg3.view.readAt (Elt Ideal) (Rect.unit (s := S1x4096) ![0, 0] S1x4096.size inb_S1x4096_S1x4096_0_0).toLoadRect X3)⟩] := by
  unfold tripL_k0_t1 trip_k0_t1; rfl

/-- What one trip of the first loop stores into the result block: a strip of zeros. -/
theorem trip1_result (h : k0_cond1 i = 1#1) (X2 : BufTy.Contents (Elt Ideal) arg2.view.ty)
    (X3 : BufTy.Contents (Elt Ideal) arg3.view.ty) (k : Fin k0_t1_loop.trips) :
    (tripL_k0_t1 (F := Ideal) 𝒱 c bd i arg2 harg2 arg3 harg3 arg4 harg4 arg5 harg5 arg6 harg6 arg7 harg7 arg8 harg8 h X2 X3 k).1
      = [⟨Rect.unit (s := S1024x4096) (k0_off1 k) S64x4096.size (k0_off1_inb i k h), k0_pay2 (F := Ideal)⟩] := by
  unfold tripL_k0_t1 trip_k0_t1; rfl

/-- What one trip of the second loop stores into the result block: the residual plus the normalised strip. -/
theorem trip2_result (h : k0_cond2 i = 1#1) (X2 : BufTy.Contents (Elt Ideal) arg2.view.ty)
    (X4 : BufTy.Contents (Elt Ideal) arg4.view.ty) (k : Fin k0_t2_loop.trips) (f : BufTy.Contents (Elt Ideal) arg7.view.ty) :
    tripL_k0_t2 (F := Ideal) 𝒱 c bd i arg2 harg2 arg3 harg3 arg4 harg4 arg5 harg5 arg6 harg6 arg7 harg7 arg8 harg8 h X2 X4 k f
      = [⟨Rect.unit (s := S1024x4096) (k0_off2 k) S64x4096.size (k0_off2_inb i k h),
          k0_pay4 (arg2.view.readAt (Elt Ideal) (Rect.unit (s := S1024x4096) (k0_off2 k) S64x4096.size (k0_off2_inb i k h)).toLoadRect X2)
            (arg7.view.readAt (Elt Ideal) (Rect.unit (s := S1024x4096) (k0_off2 k) S64x4096.size (k0_off2_inb i k h)).toLoadRect f)
            (arg4.view.readAt (Elt Ideal) (Rect.unit (s := S1x4096) ![0, 0] S1x4096.size inb_S1x4096_S1x4096_0_0).toLoadRect X4)⟩] := by
  unfold tripL_k0_t2 trip_k0_t2; rfl

/-- A load of a strip of 64 rows of a whole block reads the block's rows there. -/
theorem strip_load (m : Memref sig .tc .vmem S1024x4096 .f32) (f : BufTy.Contents (Elt Ideal) m.view.ty)
    {off : Fin 2 → ℕ} (k : ℕ) (hk : k < 16) (ho : off = ![64 * k, 0]) (inb) (s : Fin 64) (d : Fin 4096) (r : Fin 1024)
    (hr : r.val = 64 * k + s.val) :
    m.view.readAt (Elt Ideal) (Rect.unit (s := S1024x4096) off S64x4096.size inb).toLoadRect f (ix2 s d : S64x4096.Idx)
      = m.view.read (Elt Ideal) f (ix2 r d) := by
  subst ho
  refine congrArg (m.view.read (Elt Ideal) f) (funext fun a => Fin.ext ?_)
  match a with
  | ⟨0, _⟩ => show 64 * k + 1 * s.val = r.val; omega
  | ⟨1, _⟩ => show 0 + 1 * d.val = d.val; omega

/-- A load of a whole row of gains reads the gains. -/
theorem gain_load (m : Memref sig .tc .vmem S1x4096 .f32) (h : m.IsWhole) (g : FVec Ideal S1x4096 .f32) (inb) :
    m.view.readAt (Elt Ideal) (Rect.unit (s := S1x4096) ![0, 0] S1x4096.size inb).toLoadRect (h.unread g) = g := by
  rw [View.readAt_full, h.read_unread]

/-- The first loop makes sixteen trips. -/
theorem trips1 : k0_t1_loop.trips = 16 := by decide
/-- The second loop makes sixteen trips. -/
theorem trips2 : k0_t2_loop.trips = 16 := by decide

/-- After `k` trips of the first loop the scratch holds the normalised activations in its first `64 * k` rows. -/
theorem loop1_scratch (h : k0_cond1 i = 1#1) (x : FVec Ideal S1024x4096 .f32) (g : FVec Ideal S1x4096 .f32)
    (f : BufTy.Contents (Elt Ideal) arg8.view.ty) :
    ∀ k : ℕ, k ≤ 16 → ∀ (r : Fin 1024) (d : Fin 4096), r.val < 64 * k →
      arg8.view.read (Elt Ideal) (arg8.view.writes (Elt Ideal) f
          (pb_k0_t1 (F := Ideal) 𝒱 c bd i arg2 harg2 arg3 harg3 arg4 harg4 arg5 harg5 arg6 harg6 arg7 harg7 arg8 harg8 h (harg2.unread x) (harg3.unread g) k).2) (ix2 r d)
        = rms (fun e => x (ix2 r e)) (g (ix2 0 d)) d := by
  intro k
  induction k with
  | zero => intro _ r d hr; omega
  | succ k ih =>
    intro hk r d hr
    have hk' : k < k0_t1_loop.trips := by rw [trips1]; omega
    rw [pb_k0_t1_succ 𝒱 c bd i arg2 harg2 arg3 harg3 arg4 harg4 arg5 harg5 arg6 harg6 arg7 harg7 arg8 harg8 h _ _ ⟨k, hk'⟩, trip1_scratch]
    by_cases hr' : r.val < 64 * k
    · refine (View.read_writes_cons_rows_of_not_mem (o := 64 * k) (W := 64) arg8.view f _ _ _ (ix2 r d) (k0_off1_eq _) rfl (.inl hr')).trans ?_
      exact ih (by omega) r d hr'
    · obtain ⟨s, hs⟩ := strip_local k r (by omega) hr'
      refine (View.read_writes_cons_rows_of_mem (o := 64 * k) arg8.view f _ _ _ (ix2 r d) (ix2 s d : S64x4096.Idx) (k0_off1_eq _) hs rfl).trans ?_
      refine (pay1_apply _ _ s d).trans ?_
      rw [gain_load]
      refine congrArg (fun row => rms row (g (ix2 0 d)) d) (funext fun e => ?_)
      rw [strip_load arg2 _ k (by omega) (k0_off1_eq _) _ s e r hs, harg2.read_unread]

/-- After `k` trips of the first loop the result block holds zeros in its first `64 * k` rows. -/
theorem loop1_result (h : k0_cond1 i = 1#1) (X2 : BufTy.Contents (Elt Ideal) arg2.view.ty)
    (X3 : BufTy.Contents (Elt Ideal) arg3.view.ty) (f : BufTy.Contents (Elt Ideal) arg7.view.ty) :
    ∀ k : ℕ, k ≤ 16 → ∀ (r : Fin 1024) (d : Fin 4096), r.val < 64 * k →
      arg7.view.read (Elt Ideal) (arg7.view.writes (Elt Ideal) f
          (pb_k0_t1 (F := Ideal) 𝒱 c bd i arg2 harg2 arg3 harg3 arg4 harg4 arg5 harg5 arg6 harg6 arg7 harg7 arg8 harg8 h X2 X3 k).1) (ix2 r d) = (0 : EReal) := by
  intro k
  induction k with
  | zero => intro _ r d hr; omega
  | succ k ih =>
    intro hk r d hr
    have hk' : k < k0_t1_loop.trips := by rw [trips1]; omega
    rw [pb_k0_t1_succ 𝒱 c bd i arg2 harg2 arg3 harg3 arg4 harg4 arg5 harg5 arg6 harg6 arg7 harg7 arg8 harg8 h _ _ ⟨k, hk'⟩, trip1_result]
    by_cases hr' : r.val < 64 * k
    · refine (View.read_writes_cons_rows_of_not_mem (o := 64 * k) (W := 64) arg7.view f _ _ _ (ix2 r d) (k0_off1_eq _) rfl (.inl hr')).trans ?_
      exact ih (by omega) r d hr'
    · obtain ⟨s, hs⟩ := strip_local k r (by omega) hr'
      refine (View.read_writes_cons_rows_of_mem (o := 64 * k) arg7.view f _ _ _ (ix2 r d) (ix2 s d : S64x4096.Idx) (k0_off1_eq _) hs rfl).trans ?_
      exact pay2_apply s d

/-- After `k` trips of the second loop the result block holds, in its first `64 * k` rows, the residual plus the
    normalised rows that the loop found, and its other rows are as the loop found them. -/
theorem loop2_result (h : k0_cond2 i = 1#1) (x : FVec Ideal S1024x4096 .f32) (g : FVec Ideal S1x4096 .f32)
    (f : BufTy.Contents (Elt Ideal) arg7.view.ty) :
    ∀ k : ℕ, k ≤ 16 → ∀ (r : Fin 1024) (d : Fin 4096),
      arg7.view.read (Elt Ideal) (arg7.view.writes (Elt Ideal) f
          (pb_k0_t2 (F := Ideal) 𝒱 c bd i arg2 harg2 arg3 harg3 arg4 harg4 arg5 harg5 arg6 harg6 arg7 harg7 arg8 harg8 h (harg2.unread x) (harg4.unread g) f k)) (ix2 r d)
        = if r.val < 64 * k then
            x (ix2 r d) + rms (fun e => arg7.view.read (Elt Ideal) f (ix2 r e)) (g (ix2 0 d)) d
          else arg7.view.read (Elt Ideal) f (ix2 r d) := by
  intro k
  induction k with
  | zero => intro _ r d; rw [if_neg (by omega)]; rfl
  | succ k ih =>
    intro hk r d
    have hk' : k < k0_t2_loop.trips := by rw [trips2]; omega
    have ih' := ih (by omega)
    rw [pb_k0_t2_succ 𝒱 c bd i arg2 harg2 arg3 harg3 arg4 harg4 arg5 harg5 arg6 harg6 arg7 harg7 arg8 harg8 h _ _ _ ⟨k, hk'⟩, trip2_result]
    by_cases hr' : r.val < 64 * k
    · refine (View.read_writes_cons_rows_of_not_mem (o := 64 * k) (W := 64) arg7.view f _ _ _ (ix2 r d) (k0_off2_eq _) rfl (.inl hr')).trans ?_
      rw [if_pos (by omega)]
      refine (ih' r d).trans ?_
      rw [if_pos hr']
    · by_cases hr2 : r.val < 64 * (k + 1)
      · obtain ⟨s, hs⟩ := strip_local k r hr2 hr'
        refine (View.read_writes_cons_rows_of_mem (o := 64 * k) arg7.view f _ _ _ (ix2 r d) (ix2 s d : S64x4096.Idx) (k0_off2_eq _) hs rfl).trans ?_
        refine (pay4_apply _ _ _ s d).trans ?_
        rw [if_pos hr2, gain_load, strip_load arg2 _ k (by omega) (k0_off2_eq _) _ s d r hs, harg2.read_unread]
        refine congrArg (fun row => x (ix2 r d) + rms row (g (ix2 0 d)) d) (funext fun e => ?_)
        rw [strip_load arg7 _ k (by omega) (k0_off2_eq _) _ s e r hs]
        refine (ih' r e).trans ?_
        rw [if_neg hr']
      · rw [if_neg hr2]
        refine (View.read_writes_cons_rows_of_not_mem (o := 64 * k) (W := 64) arg7.view f _ _ _ (ix2 r d) (k0_off2_eq _) rfl (.inr (by
          show 64 * k + 64 ≤ r.val; omega))).trans ?_
        refine (ih' r d).trans ?_
        rw [if_neg hr']

end Loops
end Cert.Proof.Mlp
end
-- ==== Proof.MlpBlocks.lean ====
module

public import proofs.«01_k».proof.Proof.MlpLoops

/-! What the windows of the MLP's kernel hold at a grid point, read at an index: point `t` of the 8 by 32 grid has the row
block `t / 32` of the activations and the hidden block `t % 32` of the two weight matrices. -/

@[expose] public section

set_option maxRecDepth 16384

noncomputable section

namespace Cert.Proof.Mlp

open Cert.Proof.Rows
open Idealize.ShloMosaic Idealize.ShloMosaic.TcCoe Idealize.SL.Sem Idealize.ShloMosaic.Tactic
open Cert.KernelIdeal Cert.KernelIdeal.Gen
open scoped BigOperators

variable (m : (ℓ : Loc nD τ sig) → Buf (Elt Ideal) ℓ) (c : Dev nD)

/-- The activations the launch gave. -/
def argX : FVec Ideal S8192x4096 .f32 := m ((c : Thread nD τ).loc main_arg0)
/-- The gain of the normalisation before the two products. -/
def argPre : FVec Ideal S4096 .f32 := m ((c : Thread nD τ).loc main_arg1)
/-- The gain of the normalisation after them. -/
def argPost : FVec Ideal S4096 .f32 := m ((c : Thread nD τ).loc main_arg2)
/-- The weights of the first product. -/
def argUp : FVec Ideal S4096x16384 .f32 := m ((c : Thread nD τ).loc main_arg3)
/-- The weights of the second product. -/
def argDown : FVec Ideal S16384x4096 .f32 := m ((c : Thread nD τ).loc main_arg4)

theorem idx0 : ∀ t : Fin grid0.N, win0_0.index t (0 : Fin 2) = t.val / 32 ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = t.val % 32 := by decide +kernel
theorem idx4 : ∀ t : Fin grid0.N, win0_4.index t (0 : Fin 2) = t.val % 32 ∧ win0_4.index t (1 : Fin 2) = 0 := by decide +kernel

/-- The host's cast of the first weights is those weights, over the reals. -/
theorem V_up : V m c main_v0 = argUp m c := by
  unfold V argUp
  after_results_simp
  rfl

/-- The host's cast of the second weights is those weights, over the reals. -/
theorem V_down : V m c main_v1 = argDown m c := by
  unfold V argDown
  after_results_simp
  rfl

/-- The host's reshape of the first gain to one row is that gain. -/
theorem V_pre (d : Fin 4096) : (V m c main_v2 : FVec Ideal S1x4096 .f32) (ix2 0 d) = argPre m c (ix1 d) := by
  unfold V argPre
  after_results_simp
  pointwise

/-- The host's reshape of the second gain to one row is that gain. -/
theorem V_post (d : Fin 4096) : (V m c main_v3 : FVec Ideal S1x4096 .f32) (ix2 0 d) = argPost m c (ix1 d) := by
  unfold V argPost
  after_results_simp
  pointwise

/-- Window 0 at point `t`: the rows of row block `t / 32`. -/
theorem blk0 (t : Fin cfg0.N) (r : Fin 1024) (d : Fin 4096) (hb : 1024 * (t.val / 32) + r.val < 8192) :
    (iblk m c 0 t : FVec Ideal S1024x4096 .f32) (ix2 r d) = argX m c (ix2 ⟨1024 * (t.val / 32) + r.val, hb⟩ d) := by
  have h := idx0 t
  blk_simp [iblk, V_main_arg0]
  refine (congrFun (V_main_arg0 m c) _).trans (congrArg (argX m c) ?_)
  blk_ext [h]

/-- Window 1: the first gain, at every point. -/
theorem blk1 (t : Fin cfg0.N) (d : Fin 4096) :
    (iblk m c 1 t : FVec Ideal S1x4096 .f32) (ix2 0 d) = argPre m c (ix1 d) := by
  have h := idx1 t
  refine Eq.trans ?_ (V_pre m c d)
  blk_simp [iblk]
  refine congrArg (V m c main_v2) ?_
  blk_ext [h]

/-- Window 2: the second gain, at every point. -/
theorem blk2 (t : Fin cfg0.N) (d : Fin 4096) :
    (iblk m c 2 t : FVec Ideal S1x4096 .f32) (ix2 0 d) = argPost m c (ix1 d) := by
  have h := idx2 t
  refine Eq.trans ?_ (V_post m c d)
  blk_simp [iblk]
  refine congrArg (V m c main_v3) ?_
  blk_ext [h]

/-- Window 3 at point `t`: the columns of hidden block `t % 32` of the first weights. -/
theorem blk3 (t : Fin cfg0.N) (k : Fin 4096) (e : Fin 512) (hb : 512 * (t.val % 32) + e.val < 16384) :
    (iblk m c 3 t : FVec Ideal S4096x512 .bf16) (ix2 k e) = argUp m c (ix2 k ⟨512 * (t.val % 32) + e.val, hb⟩) := by
  have h := idx3 t
  blk_simp [iblk]
  refine (congrFun (V_up m c) _).trans (congrArg (argUp m c) ?_)
  blk_ext [h]

/-- Window 4 at point `t`: the rows of hidden block `t % 32` of the second weights. -/
theorem blk4 (t : Fin cfg0.N) (e : Fin 512) (d : Fin 4096) (hb : 512 * (t.val % 32) + e.val < 16384) :
    (iblk m c 4 t : FVec Ideal S512x4096 .bf16) (ix2 e d) = argDown m c (ix2 ⟨512 * (t.val % 32) + e.val, hb⟩ d) := by
  have h := idx4 t
  blk_simp [iblk]
  refine (congrFun (V_down m c) _).trans (congrArg (argDown m c) ?_)
  blk_ext [h]

end Cert.Proof.Mlp
end
-- ==== Proof.MlpPoints.lean ====
module

public import proofs.«01_k».proof.Proof.MlpBlocks

/-! What the result block and the scratch hold after each point of a row block's run of 32 points. -/

@[expose] public section

set_option maxRecDepth 16384

noncomputable section

namespace Cert.Proof.Mlp

open Cert.Proof.Rows
open Idealize.ShloMosaic Idealize.ShloMosaic.TcCoe Idealize.SL.Sem Idealize.ShloMosaic.Tactic
open Cert.KernelIdeal Cert.KernelIdeal.Gen
open scoped BigOperators

variable (m : (ℓ : Loc nD τ sig) → Buf (Elt Ideal) ℓ) (c : Dev nD)

/-- The rows of activations at point `t`. -/
def xBlock (t : Fin cfg0.N) : FVec Ideal S1024x4096 .f32 := iblk m c 0 t

/-- What the normalised strip of row `r` at point `t` is: the first window's row, normalised with the first gain. -/
def normRow (t : Fin cfg0.N) (r : Fin 1024) (k : Fin 4096) : EReal :=
  rms (fun e => xBlock m c t (ix2 r e)) ((iblk m c 1 t : FVec Ideal S1x4096 .f32) (ix2 0 k)) k

/-- What point `t` adds to row `r` from the normalised rows `xn`: the product over its block of 512 hidden units. -/
def hiddenBlock (t : Fin cfg0.N) (xn : Fin 4096 → EReal) (d : Fin 4096) : EReal :=
  ∑ h : Fin 512, (max (∑ k, xn k * (iblk m c 3 t : FVec Ideal S4096x512 .bf16) (ix2 k h)) 0
      * max (∑ k, xn k * (iblk m c 3 t : FVec Ideal S4096x512 .bf16) (ix2 k h)) 0)
    * (iblk m c 4 t : FVec Ideal S512x4096 .bf16) (ix2 h d)

/-- A point's hidden block depends on the normalised rows by their entries alone. -/
theorem hidden_congr (t : Fin cfg0.N) (xn xn' : Fin 4096 → EReal) (e : ∀ k, xn k = xn' k) (d : Fin 4096) :
    hiddenBlock m c t xn d = hiddenBlock m c t xn' d := by rw [funext e]

/-- After the first point of a run the scratch holds the normalised rows. -/
theorem scratch_A (t : Fin cfg0.N) (h0 : t.val % 32 = 0) (r : Fin 1024) (d : Fin 4096) :
    (outsAt0 m c t.val t.isLt).2 (ix2 r d) = normRow m c t r d := by
  have h1 : ¬ t.val % 32 = 31 := by omega
  rw [outsAt0_A m c t h0 h1]
  frame_out
  rw [← View.read_writes_junk_eq_canon (v := scM0_0.view)]
  exact loop1_scratch _ _ _ _ _ _ _ _ _ _ _ _ _ _ _ _ scM0_0 _ _ _ _ _ 16 (le_refl _) r d (by omega)

/-- After the first point of a run the result block holds that point's hidden block. -/
theorem result_A (t : Fin cfg0.N) (h0 : t.val % 32 = 0) (r : Fin 1024) (d : Fin 4096) :
    (outsAt0 m c t.val t.isLt).1 (ix2 r d) = 0 + hiddenBlock m c t (normRow m c t r) d := by
  have h1 : ¬ t.val % 32 = 31 := by omega
  rw [outsAt0_A m c t h0 h1]
  frame_out
  refine (pay3_apply _ _ _ _ r d).trans ?_
  refine congrArg₂ (· + ·) ?_ (hidden_congr m c t _ _ (fun k => ?_) d)
  · refine (congrFun (View.readAt_full (s := S1024x4096) _ _ _) (ix2 r d)).trans ?_
    exact loop1_result _ _ _ _ _ _ _ _ _ _ _ _ _ _ _ _ _ _ _ _ _ _ 16 (le_refl _) r d (by omega)
  · refine (congrFun (View.readAt_full (s := S1024x4096) _ _ _) (ix2 r k)).trans ?_
    exact loop1_scratch _ _ _ _ _ _ _ _ _ _ _ _ _ _ _ _ scM0_0 _ _ _ _ _ 16 (le_refl _) r k (by omega)

/-- A later point of a run leaves the scratch as it found it. -/
theorem scratch_B (t : Fin cfg0.N) (h0 : ¬ t.val % 32 = 0) (hp : t.val - 1 < cfg0.N) :
    (outsAt0 m c t.val t.isLt).2 = (outsAt0 m c (t.val - 1) hp).2 := by
  by_cases h1 : t.val % 32 = 31
  · rw [outsAt0_C m c t h0 h1]; rfl
  · rw [outsAt0_B m c t h0 h1]; rfl

/-- A point in the middle of a run adds its hidden block to the result block. -/
theorem result_B (t : Fin cfg0.N) (h0 : ¬ t.val % 32 = 0) (h1 : ¬ t.val % 32 = 31) (hp : t.val - 1 < cfg0.N)
    (r : Fin 1024) (d : Fin 4096) :
    (outsAt0 m c t.val t.isLt).1 (ix2 r d)
      = (outsAt0 m c (t.val - 1) hp).1 (ix2 r d)
        + hiddenBlock m c t (fun k => (outsAt0 m c (t.val - 1) hp).2 (ix2 r k)) d := by
  rw [outsAt0_B m c t h0 h1]
  frame_out
  refine (pay3_apply _ _ _ _ r d).trans ?_
  refine congrArg₂ (· + ·) rfl (hidden_congr m c t _ _ (fun k => ?_) d)
  exact congrFun (Memref.IsWhole.read_unread _ _) (ix2 r k)

/-- The last point of a run adds its hidden block, then replaces each row by the residual plus the normalised row. -/
theorem result_C (t : Fin cfg0.N) (h1 : t.val % 32 = 31) (hp : t.val - 1 < cfg0.N) (r : Fin 1024) (d : Fin 4096) :
    (outsAt0 m c t.val t.isLt).1 (ix2 r d)
      = xBlock m c t (ix2 r d)
        + rms (fun e => (outsAt0 m c (t.val - 1) hp).1 (ix2 r e)
            + hiddenBlock m c t (fun k => (outsAt0 m c (t.val - 1) hp).2 (ix2 r k)) e)
          ((iblk m c 2 t : FVec Ideal S1x4096 .f32) (ix2 0 d)) d := by
  have h0 : ¬ t.val % 32 = 0 := by omega
  rw [outsAt0_C m c t h0 h1]
  frame_out
  rw [← View.read_writes_junk_eq_canon (v := (ms0_5 t).view), View.writes_append]
  refine (loop2_result _ _ _ _ _ _ _ _ _ _ _ _ _ _ _ _ _ _ _ _ _ _ 16 (le_refl _) r d).trans ?_
  rw [if_pos (by omega)]
  refine congrArg₂ (· + ·) rfl (congrArg (fun row => rms row _ d) (funext fun e => ?_))
  refine (congrFun (View.read_writes_full (s := S1024x4096) _ _ _ _ []) (ix2 r e)).trans ?_
  refine (pay3_apply _ _ _ _ r e).trans ?_
  refine congrArg₂ (· + ·) rfl (hidden_congr m c t _ _ (fun k => ?_) e)
  exact congrFun (Memref.IsWhole.read_unread _ _) (ix2 r k)

end Cert.Proof.Mlp
end
-- ==== Proof.MlpRef.lean ====
module

public import proofs.«01_k».proof.Proof.MlpPure

/-! The MLP's reference, read at an index. -/

@[expose] public section

set_option maxRecDepth 16384

noncomputable section

namespace Cert.Proof.Mlp

open Cert.Proof.Rows
open Idealize.ShloMosaic Idealize.ShloMosaic.TcCoe Idealize.SL.Sem
open Cert.ReferenceIdeal
open scoped BigOperators

/-- What hidden unit `h` adds to column `d` of the second product: the square of the rectified first product of the
    normalised row with the unit's weights, times the unit's weight of that column. -/
def hiddenUnit (x : Fin 4096 → EReal) (g : Fin 4096 → EReal) (wu : Fin 4096 → Fin 16384 → EReal) (wd : Fin 16384 → Fin 4096 → EReal)
    (d : Fin 4096) (h : Fin 16384) : EReal :=
  (max (∑ k, rms x (g k) k * wu k h) 0 * max (∑ k, rms x (g k) k * wu k h) 0) * wd h d

/-- What the MLP's second product holds in one row, column `d`: from the row of activations, the first gain, the weights. -/
def mlpRow (x : Fin 4096 → EReal) (g : Fin 4096 → EReal) (wu : Fin 4096 → Fin 16384 → EReal) (wd : Fin 16384 → Fin 4096 → EReal)
    (d : Fin 4096) : EReal :=
  ∑ h : Fin 16384, hiddenUnit x g wu wd d h

/-- The layer's last residual step at row `r`, column `d`: the activation plus the second product's row, normalised. -/
def mlpOut (X : Fin 8192 → Fin 4096 → EReal) (gpre gpost : Fin 4096 → EReal) (WU : Fin 4096 → Fin 16384 → EReal)
    (WD : Fin 16384 → Fin 4096 → EReal) (r : Fin 8192) (d : Fin 4096) : EReal :=
  X r d + rms (mlpRow (X r) gpre WU WD) (gpost d) d

variable (m : (ℓ : Loc nD τ sig) → Buf (Elt Ideal) ℓ) (c : Dev nD)

/-- The reference's activations. -/
def refX : FVec Ideal S8192x4096 .f32 := m ((c : Thread nD τ).loc main_arg0)
/-- The reference's first gain. -/
def refPre : FVec Ideal S4096 .f32 := m ((c : Thread nD τ).loc main_arg1)
/-- The reference's second gain. -/
def refPost : FVec Ideal S4096 .f32 := m ((c : Thread nD τ).loc main_arg2)
/-- The reference's first weights. -/
def refUp : FVec Ideal S4096x16384 .f32 := m ((c : Thread nD τ).loc main_arg3)
/-- The reference's second weights. -/
def refDown : FVec Ideal S16384x4096 .f32 := m ((c : Thread nD τ).loc main_arg4)

/-- The reference's result, entry by entry. -/
theorem reference_apply (r : Fin 8192) (d : Fin 4096) :
    (Value.res_main_v30 m c : FVec Ideal S8192x4096 .f32) (ix2 r d)
      = mlpOut (fun r k => refX m c (ix2 r k)) (fun k => refPre m c (ix1 k)) (fun k => refPost m c (ix1 k))
          (fun k h => refUp m c (ix2 k h)) (fun h k => refDown m c (ix2 h k)) r d := by
  unfold mlpOut mlpRow hiddenUnit rms rstd refX refPre refPost refUp refDown
  pointwise [Value.res_main_v30]

end Cert.Proof.Mlp
end
-- ==== Proof.MlpValue.lean ====
module

public import proofs.«01_k».proof.Proof.MlpPoints
public import proofs.«01_k».proof.Proof.MlpRef

/-! The MLP's kernel computes its reference: the 32 points of a row block add the 32 blocks of hidden units to the result
block, the last one normalises it and adds the residual. -/

@[expose] public section

set_option maxRecDepth 16384

noncomputable section

namespace Cert.Proof.Mlp

open Cert.Proof.Rows
open Idealize.ShloMosaic Idealize.ShloMosaic.TcCoe Idealize.SL.Sem Idealize.ShloMosaic.Tactic
open Cert.KernelIdeal Cert.KernelIdeal.Gen
open scoped BigOperators

/-- The grid has 8 row blocks of 32 points. -/
theorem points : cfg0.N = 256 := by decide

variable (m : (ℓ : Loc nD τ sig) → Buf (Elt Ideal) ℓ) (c : Dev nD)

/-- Row `r` of row block `s` of the activations. -/
def rowX (s : Fin 8) (r : Fin 1024) (k : Fin 4096) : EReal := argX m c (ix2 ⟨1024 * s.val + r.val, by omega⟩ k)

/-- What hidden unit `h` adds to row `r` of row block `s`, column `d`. -/
def unitOf (s : Fin 8) (r : Fin 1024) (d : Fin 4096) (h : Fin 16384) : EReal :=
  hiddenUnit (rowX m c s r) (fun k => argPre m c (ix1 k)) (fun k h => argUp m c (ix2 k h)) (fun h k => argDown m c (ix2 h k)) d h

/-- What the 512 hidden units of block `j` add. -/
def blockOf (s : Fin 8) (r : Fin 1024) (d : Fin 4096) (j : ℕ) : EReal :=
  ∑ e : Fin 512, if h : 512 * j + e.val < 16384 then unitOf m c s r d ⟨512 * j + e.val, h⟩ else 0

/-- The normalised rows at a point of row block `s`. -/
theorem normRow_eq (t : Fin cfg0.N) (s : Fin 8) (hs : t.val / 32 = s.val) (r : Fin 1024) (k : Fin 4096) :
    normRow m c t r k = rms (rowX m c s r) (argPre m c (ix1 k)) k := by
  unfold normRow xBlock
  rw [blk1]
  refine congrArg (fun row => rms row _ k) (funext fun e => ?_)
  refine (blk0 m c t r e (by omega)).trans ?_
  unfold rowX
  simp only [hs]

/-- A point's hidden block, over the normalised rows. -/
theorem hiddenBlock_eq (t : Fin cfg0.N) (s : Fin 8) (r : Fin 1024) (xn : Fin 4096 → EReal)
    (hxn : ∀ k, xn k = rms (rowX m c s r) (argPre m c (ix1 k)) k) (d : Fin 4096) :
    hiddenBlock m c t xn d = blockOf m c s r d (t.val % 32) := by
  rw [hidden_congr m c t xn _ hxn d]
  unfold hiddenBlock blockOf
  refine Finset.sum_congr rfl fun e _ => ?_
  have hb : 512 * (t.val % 32) + e.val < 16384 := by omega
  rw [dif_pos hb]
  unfold unitOf hiddenUnit
  rw [blk4 m c t e d hb]
  have h3 : ∀ k : Fin 4096, _ = _ := fun k => blk3 m c t k e hb
  simp only [h3]

/-- The scratch holds the normalised rows after every point of row block `s`. -/
theorem scratch_run (s : Fin 8) : ∀ (j : ℕ) (_ : j < 32) (h : 32 * s.val + j < cfg0.N) (r : Fin 1024) (k : Fin 4096),
    (outsAt0 m c (32 * s.val + j) h).2 (ix2 r k) = rms (rowX m c s r) (argPre m c (ix1 k)) k := by
  intro j
  induction j with
  | zero =>
    intro _ h r k
    refine (scratch_A m c ⟨32 * s.val + 0, h⟩ (by show (32 * s.val + 0) % 32 = 0; omega) r k).trans ?_
    exact normRow_eq m c _ s (by show (32 * s.val + 0) / 32 = s.val; omega) r k
  | succ j ih =>
    intro hj h r k
    have hp : 32 * s.val + j < cfg0.N := by omega
    refine (congrFun (scratch_B m c ⟨32 * s.val + (j + 1), h⟩ (by show ¬ (32 * s.val + (j + 1)) % 32 = 0; omega) hp) (ix2 r k)).trans ?_
    exact ih (by omega) hp r k

/-- Before the last point of row block `s` the result block holds the sum of the hidden blocks so far. -/
theorem result_run (s : Fin 8) : ∀ (j : ℕ) (_ : j < 31) (h : 32 * s.val + j < cfg0.N) (r : Fin 1024) (d : Fin 4096),
    (outsAt0 m c (32 * s.val + j) h).1 (ix2 r d) = ∑ i ∈ Finset.range (j + 1), blockOf m c s r d i := by
  intro j
  induction j with
  | zero =>
    intro _ h r d
    refine (result_A m c ⟨32 * s.val + 0, h⟩ (by show (32 * s.val + 0) % 32 = 0; omega) r d).trans ?_
    rw [hiddenBlock_eq m c _ s r _ (fun k => normRow_eq m c _ s (by show (32 * s.val + 0) / 32 = s.val; omega) r k) d,
      zero_add, Finset.sum_range_one]
    exact congrArg (blockOf m c s r d) (by show (32 * s.val + 0) % 32 = 0; omega)
  | succ j ih =>
    intro hj h r d
    have hp : 32 * s.val + j < cfg0.N := by omega
    refine (result_B m c ⟨32 * s.val + (j + 1), h⟩ (by show ¬ (32 * s.val + (j + 1)) % 32 = 0; omega)
      (by show ¬ (32 * s.val + (j + 1)) % 32 = 31; omega) hp r d).trans ?_
    rw [Finset.sum_range_succ]
    refine congrArg₂ (· + ·) (ih (by omega) hp r d) ?_
    refine (hiddenBlock_eq m c _ s r _ (fun k => scratch_run m c s j (by omega) hp r k) d).trans ?_
    exact congrArg (blockOf m c s r d) (by show (32 * s.val + (j + 1)) % 32 = j + 1; omega)

/-- The 32 blocks of hidden units are all of them. -/
theorem blocks_all (s : Fin 8) (r : Fin 1024) (d : Fin 4096) :
    ∑ i ∈ Finset.range 32, blockOf m c s r d i = ∑ h : Fin 16384, unitOf m c s r d h := by
  rw [Fin.sum_univ_tiles 32 512 rfl, Finset.sum_range]
  refine Finset.sum_congr rfl fun i _ => Finset.sum_congr rfl fun e _ => ?_
  have hb : 512 * i.val + e.val < 16384 := by omega
  rw [dif_pos hb]
  exact congrArg (unitOf m c s r d) (Fin.ext (by show 512 * i.val + e.val = i.val * 512 + e.val; omega))

/-- After the last point of row block `s` the result block holds the reference's rows. -/
theorem result_last (s : Fin 8) (h : 32 * s.val + 31 < cfg0.N) (r : Fin 1024) (d : Fin 4096) :
    (outsAt0 m c (32 * s.val + 31) h).1 (ix2 r d)
      = mlpOut (fun r k => argX m c (ix2 r k)) (fun k => argPre m c (ix1 k)) (fun k => argPost m c (ix1 k))
          (fun k h => argUp m c (ix2 k h)) (fun h k => argDown m c (ix2 h k)) ⟨1024 * s.val + r.val, by omega⟩ d := by
  have hp : 32 * s.val + 30 < cfg0.N := by omega
  refine (result_C m c ⟨32 * s.val + 31, h⟩ (by show (32 * s.val + 31) % 32 = 31; omega) hp r d).trans ?_
  have hs : (32 * s.val + 31) / 32 = s.val := by omega
  have hm : (32 * s.val + 31) % 32 = 31 := by omega
  unfold mlpOut xBlock
  rw [blk0 m c ⟨32 * s.val + 31, h⟩ r d (by show 1024 * ((32 * s.val + 31) / 32) + r.val < 8192; omega), blk2]
  refine congrArg₂ (· + ·) (by simp only [hs]) (congrArg (fun row => rms row _ d) (funext fun e => ?_))
  refine (congrArg₂ (· + ·) (result_run m c s 30 (by omega) hp r e)
    (hiddenBlock_eq m c _ s r _ (fun k => scratch_run m c s 30 (by omega) hp r k) e)).trans ?_
  refine Eq.trans ?_ (blocks_all m c s r e)
  rw [Finset.sum_range_succ _ 31]
  exact congrArg (_ + blockOf m c s r e ·) hm

/-- The array the launch leaves in the result, entry by entry. -/
theorem kernel_apply (i : S8192x4096.Idx) :
    Value.G5 m c i
      = mlpOut (fun r k => argX m c (ix2 r k)) (fun k => argPre m c (ix1 k)) (fun k => argPost m c (ix1 k))
          (fun k h => argUp m c (ix2 k h)) (fun h k => argDown m c (ix2 h k)) (i 0) (i 1) := by
  idx_bounds i
  have hN := points
  have hr : Value.run5Of i = (i 0).val / 1024 := by show 1 * ((i 0).val / 1024 - 0) + 1 * ((i 1).val / 4096 - 0) = _; omega
  have hpt : Value.pt5Of i = 32 * ((i 0).val / 1024) + 31 := by show 32 * Value.run5Of i + 31 = _; rw [hr]
  have hlt : Value.pt5Of i < cfg0.N := by omega
  unfold Value.G5
  rw [dif_pos hlt, ← Value.outsAt0_sweep m c _ hlt]
  have hl : Value.loc5Of i = ix2 (⟨(i 0).val % 1024, by omega⟩ : Fin 1024) (i 1) := by
    funext a
    match a with
    | ⟨0, _⟩ => rfl
    | ⟨1, _⟩ => exact Fin.ext (Nat.mod_eq_of_lt hb1)
  rw [hl]
  have at_last : ∀ (n : ℕ) (hn : n < cfg0.N) (_ : n = 32 * ((i 0).val / 1024) + 31),
      (outsAt0 m c n hn).1 (ix2 (⟨(i 0).val % 1024, by omega⟩ : Fin 1024) (i 1)) = mlpOut (fun r k => argX m c (ix2 r k)) (fun k => argPre m c (ix1 k))
        (fun k => argPost m c (ix1 k)) (fun k h => argUp m c (ix2 k h)) (fun h k => argDown m c (ix2 h k))
        ⟨1024 * ((i 0).val / 1024) + (i 0).val % 1024, by omega⟩ (i 1) := fun n hn hs => by
    subst hs
    exact result_last m c ⟨(i 0).val / 1024, by omega⟩ hn ⟨(i 0).val % 1024, by omega⟩ (i 1)
  refine (at_last _ hlt hpt).trans ?_
  exact congrArg (fun r => mlpOut _ _ _ _ _ r (i 1)) (Fin.ext (Nat.div_add_mod _ _))

/-- The array the launch leaves in the result is the reference's, from arguments that agree. -/
theorem kernel_eq_reference (m' : (ℓ : Loc Cert.ReferenceIdeal.nD Cert.ReferenceIdeal.τ Cert.ReferenceIdeal.sig) → Buf (Elt Ideal) ℓ)
    (hx : refX m' c = argX m c) (hpre : refPre m' c = argPre m c) (hpost : refPost m' c = argPost m c)
    (hu : refUp m' c = argUp m c) (hd : refDown m' c = argDown m c) :
    (Cert.ReferenceIdeal.Value.res_main_v30 m' c : FVec Ideal S8192x4096 .f32) = Value.G5 m c := by
  funext i
  obtain ⟨r, d, rfl⟩ : ∃ (r : Fin 8192) (d : Fin 4096), i = ix2 r d :=
    ⟨i 0, i 1, by funext a; match a with | ⟨0, _⟩ => rfl | ⟨1, _⟩ => rfl⟩
  rw [kernel_apply]
  refine (reference_apply m' c r d).trans ?_
  rw [hx, hpre, hpost, hu, hd]
  rfl

end Cert.Proof.Mlp
end
-- ==== Proof.ConvRun.lean ====
module

public import proofs.«01_k».proof.Proof.Gen.Kernel2Ideal.Frame
public import proofs.«01_k».proof.Proof.Gen.Kernel2Ideal.Skeleton
public import Idealize.ShloMosaic.Lib.VecWindow
public import Idealize.ShloMosaic.Lib.Claim

/-! The convolution's body at one grid point, on buffers whose contents are given. Between points the body keeps, per
column block, the last eight rows of its product `u`; it reads them as the rows just above the next row block. -/

@[expose] public section

set_option maxRecDepth 16384

noncomputable section

namespace Cert.Proof.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- The kept rows, one slot per column block. -/
abbrev Kept (F : FTy → Type) := Vec F S4x8x512 .f32

/-- The slot of the point's column block. -/
def slot (i : grid0.Coords) (d : Kept F) : Vec F S1x8x512 .f32 :=
  VecWindow.window d (k0_off2 i) S1x8x512.size (k0_off2_inb i)

/-- The kept rows with the point's slot replaced. -/
def keep (i : grid0.Coords) (d : Kept F) (h : Vec F S1x8x512 .f32) : Kept F :=
  VecWindow.put d (k0_off2 i) S1x8x512.size h

/-- The eight rows the body puts above its row block: zeros in the first row block, else those kept. -/
def above (i : grid0.Coords) (d : Kept F) : Vec F S1x8x512 .f32 :=
  if k0_cond1 i = 1#1 then k0_pay9 else slot i d

/-- What the body leaves in its result's buffer, from its five blocks and the eight rows above: the rows of the block convolved
    as if the block closed up on itself, the first eight of them then replaced by those convolved with the rows above. -/
def result (x0 : Vec F S1024x4096 .bf16) (x1 x2 x3 : Vec F S4096x512 .bf16) (x4 : Vec F S3x512 .f32) (h : Vec F S1x8x512 .f32) :
    Vec F S1024x512 .bf16 :=
  VecWindow.put (s := S1024x512) (k0_pay8 x0 x1 x2 x3 x4) ![0, 0] S8x512.size
    (k0_pay1 (k0_pay3 x0 x1) (k0_pay4 x0 x2 x3) (k0_pay5 x4) (k0_pay6 x4) (k0_pay7 x4) (k0_pay10 h) (k0_pay11 x0 x2 x3))

/-- The body's seven buffers held at given contents: its five blocks, its result's buffer and the kept rows. -/
def held (c : Dev nD) (arg2 : Memref sig .tc .vmem S1024x4096 .bf16) (arg3 arg4 arg5 : Memref sig .tc .vmem S4096x512 .bf16)
    (arg6 : Memref sig .tc .vmem S3x512 .f32) (arg7 : Memref sig .tc .vmem S1024x512 .bf16) (arg8 : Memref sig .tc .vmem S4x8x512 .f32)
    (x0 : Vec F S1024x4096 .bf16) (x1 x2 x3 : Vec F S4096x512 .bf16) (x4 : Vec F S3x512 .f32) (o : Vec F S1024x512 .bf16) (d : Kept F) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare o
    ∗ owns (c : Thread nD τ) arg8 fullShare d)

set_option maxHeartbeats 1000000 in
/-- The body's run at a point of the first row block. -/
theorem run_first (c : Dev nD) (i : grid0.Coords) (arg2 : Memref sig .tc .vmem S1024x4096 .bf16) (harg2 : arg2.IsWhole)
    (arg3 : Memref sig .tc .vmem S4096x512 .bf16) (harg3 : arg3.IsWhole) (arg4 : Memref sig .tc .vmem S4096x512 .bf16) (harg4 : arg4.IsWhole)
    (arg5 : Memref sig .tc .vmem S4096x512 .bf16) (harg5 : arg5.IsWhole) (arg6 : Memref sig .tc .vmem S3x512 .f32) (harg6 : arg6.IsWhole)
    (arg7 : Memref sig .tc .vmem S1024x512 .bf16) (harg7 : arg7.IsWhole) (arg8 : Memref sig .tc .vmem S4x8x512 .f32) (harg8 : arg8.IsWhole)
    (hc : k0_cond1 i = 1#1) (x0 : Vec F S1024x4096 .bf16) (x1 x2 x3 : Vec F S4096x512 .bf16) (x4 : Vec F S3x512 .f32)
    (o : Vec F S1024x512 .bf16) (d : Kept F) (E : Set ℕ) (K : PUnit → sProp 𝕄) :
    iprop(held c arg2 arg3 arg4 arg5 arg6 arg7 arg8 x0 x1 x2 x3 x4 o d
        ∗ (held c arg2 arg3 arg4 arg5 arg6 arg7 arg8 x0 x1 x2 x3 x4 (result x0 x1 x2 x3 x4 (above i d)) (keep i d (k0_pay2 (k0_pay4 x0 x2 x3))) -∗ K ⟨⟩))
      ⊢ wp frame (wpE (defs₀ (F := F)) Variants.none c none) E (cc0_inproj_short_conv i arg2 harg2 arg3 harg3 arg4 harg4 arg5 harg5 arg6 harg6 arg7 harg7 arg8 harg8) K := by
  simp only [cc0_inproj_short_conv_eq_skeleton]; unfold cc0_inproj_short_conv_skel
  simp only [k0_part1_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, -, H5⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  have g0 := (View.readAt_full arg2.view (harg2.unread x0) inb_S1024x4096_S1024x4096_0_0).trans hf0
  have g1 := (View.readAt_full arg3.view (harg3.unread x1) inb_S4096x512_S4096x512_0_0).trans hf1
  have g2 := (View.readAt_full arg4.view (harg4.unread x2) inb_S4096x512_S4096x512_0_0).trans hf2
  have g3 := (View.readAt_full arg5.view (harg5.unread x3) inb_S4096x512_S4096x512_0_0).trans hf3
  have g4 := (View.readAt_full arg6.view (harg6.unread x4) inb_S3x512_S3x512_0_0).trans hf4
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [View.read_writes_cons_put _ _ _ _ _ rfl, View.read_writes_full]
    unfold result above
    rw [if_pos hc]
    delta run_first.sl.r
    delta run_first.sl.v32
    rw [show arg8.view.readCov (run_first.sl.HS_1 i hc) (Rect.unit (s := S4x8x512) (k0_off2 i) S1x8x512.size (k0_off2_inb i)).toLoadRect = k0_pay9 (F := F) from
      (View.readAt_unit arg8.view _ (k0_off2_inb i) rfl (k0_off2_inb i)).trans (by
        delta run_first.sl.HS_1
        rw [View.read_writes_cons_put _ _ _ _ _ ((k0_off1_eq i).trans (k0_off2_eq i).symm)]
        exact VecWindow.window_put_same _ _ _ _ _)]
  iexists _; isplitr; swap; · iexact HS
  ipureintro
  delta run_first.sl.HS_1
  rw [View.read_writes_cons_put _ _ _ _ _ rfl, View.read_writes_cons_put _ _ _ _ _ ((k0_off1_eq i).trans (k0_off2_eq i).symm), View.writes_nil, hfs]
  exact VecWindow.put_put_same _ _ _ _ _

set_option maxHeartbeats 1000000 in
/-- The body's run at a point of a later row block. -/
theorem run_later (c : Dev nD) (i : grid0.Coords) (arg2 : Memref sig .tc .vmem S1024x4096 .bf16) (harg2 : arg2.IsWhole)
    (arg3 : Memref sig .tc .vmem S4096x512 .bf16) (harg3 : arg3.IsWhole) (arg4 : Memref sig .tc .vmem S4096x512 .bf16) (harg4 : arg4.IsWhole)
    (arg5 : Memref sig .tc .vmem S4096x512 .bf16) (harg5 : arg5.IsWhole) (arg6 : Memref sig .tc .vmem S3x512 .f32) (harg6 : arg6.IsWhole)
    (arg7 : Memref sig .tc .vmem S1024x512 .bf16) (harg7 : arg7.IsWhole) (arg8 : Memref sig .tc .vmem S4x8x512 .f32) (harg8 : arg8.IsWhole)
    (hc : ¬ k0_cond1 i = 1#1) (x0 : Vec F S1024x4096 .bf16) (x1 x2 x3 : Vec F S4096x512 .bf16) (x4 : Vec F S3x512 .f32)
    (o : Vec F S1024x512 .bf16) (d : Kept F) (E : Set ℕ) (K : PUnit → sProp 𝕄) :
    iprop(held c arg2 arg3 arg4 arg5 arg6 arg7 arg8 x0 x1 x2 x3 x4 o d
        ∗ (held c arg2 arg3 arg4 arg5 arg6 arg7 arg8 x0 x1 x2 x3 x4 (result x0 x1 x2 x3 x4 (above i d)) (keep i d (k0_pay2 (k0_pay4 x0 x2 x3))) -∗ K ⟨⟩))
      ⊢ wp frame (wpE (defs₀ (F := F)) Variants.none c none) E (cc0_inproj_short_conv i arg2 harg2 arg3 harg3 arg4 harg4 arg5 harg5 arg6 harg6 arg7 harg7 arg8 harg8) K := by
  simp only [cc0_inproj_short_conv_eq_skeleton]; unfold cc0_inproj_short_conv_skel
  simp only [k0_part1_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, -, H5⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  have g0 := (View.readAt_full arg2.view (harg2.unread x0) inb_S1024x4096_S1024x4096_0_0).trans hf0
  have g1 := (View.readAt_full arg3.view (harg3.unread x1) inb_S4096x512_S4096x512_0_0).trans hf1
  have g2 := (View.readAt_full arg4.view (harg4.unread x2) inb_S4096x512_S4096x512_0_0).trans hf2
  have g3 := (View.readAt_full arg5.view (harg5.unread x3) inb_S4096x512_S4096x512_0_0).trans hf3
  have g4 := (View.readAt_full arg6.view (harg6.unread x4) inb_S3x512_S3x512_0_0).trans hf4
  have g8 : View.readAt (Elt F) arg8.view (Rect.unit (s := S4x8x512) (k0_off2 i) S1x8x512.size (k0_off2_inb i)).toLoadRect (harg8.unread d) = slot i d :=
    (View.readAt_unit arg8.view (harg8.unread d) (k0_off2_inb i) rfl (k0_off2_inb i)).trans (by rw [hfs]; rfl)
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [View.read_writes_cons_put _ _ _ _ _ rfl, View.read_writes_full]
    unfold result above
    rw [if_neg hc]
    rfl
  iexists _; isplitr; swap; · iexact HS
  ipureintro
  rw [View.read_writes_cons_put _ _ _ _ _ rfl, View.writes_nil, hfs]
  rfl

end Cert.Proof.Conv
end
-- ==== Proof.ConvFrame.lean ====
module

public import proofs.«01_k».proof.Proof.ConvRun
public import Idealize.ShloMosaic.Lib.Pipeline.Value

/-! The convolution's whole run: what each grid point leaves, with the rows it keeps for the row block below. -/

@[expose] public section

set_option maxRecDepth 16384

noncomputable section

namespace Cert.Proof.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of normalised activations a grid point finds. -/
def xBlock (c : Dev nD) (t : Fin cfg0.N) : Vec F S1024x4096 .bf16 := iblk m c 0 t
/-- The block of the first gate's weights. -/
def bBlock (c : Dev nD) (t : Fin cfg0.N) : Vec F S4096x512 .bf16 := iblk m c 1 t
/-- The block of the second gate's weights. -/
def cBlock (c : Dev nD) (t : Fin cfg0.N) : Vec F S4096x512 .bf16 := iblk m c 2 t
/-- The block of the values' weights. -/
def hBlock (c : Dev nD) (t : Fin cfg0.N) : Vec F S4096x512 .bf16 := iblk m c 3 t
/-- The block of convolution weights. -/
def tapBlock (c : Dev nD) (t : Fin cfg0.N) : Vec F S3x512 .f32 := iblk m c 4 t

/-- The product of the second gate and the values at a point, which is convolved. -/
def product (c : Dev nD) (t : Fin cfg0.N) : Vec F S1024x512 .f32 := k0_pay4 (xBlock m c t) (cBlock m c t) (hBlock m c t)

/-- The last eight rows of that product, which the point keeps. -/
def tail (c : Dev nD) (t : Fin cfg0.N) : Vec F S1x8x512 .f32 := k0_pay2 (product m c t)

/-- The point one row block up, in the same column block. -/
def up (t : Fin cfg0.N) : Fin cfg0.N := ⟨t.val - 4, lt_of_le_of_lt (Nat.sub_le _ _) t.isLt⟩

/-- The eight rows above a point's row block: zeros at the top, else the tail of the point above. -/
def rowsAbove (c : Dev nD) (t : Fin cfg0.N) : Vec F S1x8x512 .f32 := if t.val < 4 then k0_pay9 else tail m c (up t)

/-- What the body leaves in the result's buffer at a point. -/
def outAt (c : Dev nD) (t : Fin cfg0.N) : Vec F S1024x512 .bf16 :=
  result (xBlock m c t) (bBlock m c t) (cBlock m c t) (hBlock m c t) (tapBlock m c t) (rowsAbove m c t)

/-- Before point `n` the slots hold the tails of the last four points. -/
def Holds (c : Dev nD) (n : ℕ) (d : Kept F) : Prop :=
  ∀ s : Fin cfg0.N, s.val < n → n ≤ s.val + 4 → slot (grid0.coords s) d = tail m c s

theorem column (t : Fin cfg0.N) : (grid0.coords t 1).val = t.val % 4 := by
  have e : (grid0.coords t 1).val = t.val / 1 % 4 := Pipeline.Grid.coords_val t 1 (by decide) rfl
  rw [e, Nat.div_one]

/-- A point is in the first row block exactly if it is one of the first four. -/
theorem first_iff (t : Fin cfg0.N) : k0_cond1 (grid0.coords t) = 1#1 ↔ t.val < 4 := by
  have ht : t.val < 32 := Nat.lt_of_lt_of_eq t.isLt N_0
  have e0 : (grid0.coords t 0).val = t.val / 4 % 8 := Pipeline.Grid.coords_val t 0 (by decide) rfl
  simp only [k0_cond1, e0]
  word_cmp

/-- Windows at equal offsets are equal. -/
theorem windows_eq (d : Kept F) (o o' : Fin 3 → ℕ) (e : o = o') (h : ∀ a, o a + S1x8x512.size a ≤ S4x8x512.size a)
    (h' : ∀ a, o' a + S1x8x512.size a ≤ S4x8x512.size a) :
    VecWindow.window d o S1x8x512.size h = VecWindow.window d o' S1x8x512.size h' := by
  subst e; rfl

/-- Points in one column block read the same slot. -/
theorem slot_congr (s t : Fin cfg0.N) (h : s.val % 4 = t.val % 4) (d : Kept F) : slot (grid0.coords s) d = slot (grid0.coords t) d := by
  have e : k0_off2 (grid0.coords s) = k0_off2 (grid0.coords t) := by
    rw [k0_off2_eq, k0_off2_eq, column, column, h]
  exact windows_eq d _ _ e _ _

/-- The rows the body puts above its block are those of the point above. -/
theorem above_eq (c : Dev nD) (t : Fin cfg0.N) (d : Kept F) (h : Holds m c t.val d) : above (grid0.coords t) d = rowsAbove m c t := by
  unfold above rowsAbove
  by_cases ht : t.val < 4
  · rw [if_pos ((first_iff t).mpr ht), if_pos ht]
  · rw [if_neg (fun h => ht ((first_iff t).mp h)), if_neg ht, ← h (up t) (by show t.val - 4 < _; omega) (by show _ ≤ t.val - 4 + 4; omega)]
    exact slot_congr _ _ (by show t.val % 4 = (t.val - 4) % 4; omega) d

/-- The point's own tail put in its slot, the slots hold the tails of the last four points again. -/
theorem holds_succ (c : Dev nD) (t : Fin cfg0.N) (d : Kept F) (h : Holds m c t.val d) :
    Holds m c (t.val + 1) (keep (grid0.coords t) d (tail m c t)) := by
  intro s hs hn
  by_cases e : s = t
  · subst e; exact VecWindow.window_put_same _ _ _ _ _
  · have hne : s.val ≠ t.val := fun h => e (Fin.ext h)
    refine Eq.trans ?_ (h s (by omega) (by omega))
    refine VecWindow.window_put_of_disjoint _ _ _ _ _ _ _ 0 ?_
    rw [k0_off2_eq, k0_off2_eq]
    show (grid0.coords s 1).val + 1 ≤ (grid0.coords t 1).val ∨ (grid0.coords t 1).val + 1 ≤ (grid0.coords s 1).val
    rw [column, column]
    omega

/-- The kept rows as the body's eighth buffer. -/
abbrev scratch : Memref sig .tc .vmem S4x8x512 .f32 := Memref.whole cc0_scratch0

/-- What is held between points: the kept rows, holding the last tails, and the generator register. -/
def between (c : Dev nD) (n : ℕ) : sProp 𝕄 :=
  iprop((∃ d, ⌜Holds m c n d⌝ ∗ owns (c : Thread nD τ) scratch fullShare d) ∗ (∃ r, prngReg c r))

/-- The launch's own invariant: the kept rows at some contents, and the generator register. -/
theorem launch_invariant (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- The pipeline's data on a core: the arrays as the region finds them, what each point leaves, what is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := between m c t.val
  q w := Pipeline.shareOf spec0 w
  owed _ := 0

theorem A_eq (c : Dev nD) (w : Fin cfg0.W) : (dats m 0 c).A w = V m c (Pipeline.arrRef spec0 w) := by
  dsimp only [dats]

theorem after_out (c : Dev nD) (t : Fin cfg0.N) : (dats m 0 c).after 5 t = outAt m c t := by dsimp only [dats]

theorem before_x (c : Dev nD) (t : Fin cfg0.N) (d) : (dats m 0 c).before 0 t d = iblk m c 0 t :=
  before0_0_of m (dats m 0 c) (A_eq m c 0) (fun t => by dsimp only [dats]) t d
theorem before_b (c : Dev nD) (t : Fin cfg0.N) (d) : (dats m 0 c).before 1 t d = iblk m c 1 t :=
  before0_1_of m (dats m 0 c) (A_eq m c 1) (fun t => by dsimp only [dats]) t d
theorem before_c (c : Dev nD) (t : Fin cfg0.N) (d) : (dats m 0 c).before 2 t d = iblk m c 2 t :=
  before0_2_of m (dats m 0 c) (A_eq m c 2) (fun t => by dsimp only [dats]) t d
theorem before_h (c : Dev nD) (t : Fin cfg0.N) (d) : (dats m 0 c).before 3 t d = iblk m c 3 t :=
  before0_3_of m (dats m 0 c) (A_eq m c 3) (fun t => by dsimp only [dats]) t d
theorem before_tap (c : Dev nD) (t : Fin cfg0.N) (d) : (dats m 0 c).before 4 t d = iblk m c 4 t :=
  before0_4_of m (dats m 0 c) (A_eq m c 4) (fun t => by dsimp only [dats]) t d

/-- What the body is called with at a point. -/
def bodyPre (c : Dev nD) (t : Fin cfg0.N) : sProp 𝕄 :=
  iprop(between m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns at a point. -/
def bodyPost (c : Dev nD) (t : Fin cfg0.N) : sProp 𝕄 :=
  iprop(between m c (t.val + 1) ∗ (dats m 0 c).owesAt () t.succ
    ∗ owns (c : Thread nD τ) (st0_0 t) fullShare (xBlock m c t)
    ∗ owns (c : Thread nD τ) (st0_1 t) fullShare (bBlock m c t)
    ∗ owns (c : Thread nD τ) (st0_2 t) fullShare (cBlock m c t)
    ∗ owns (c : Thread nD τ) (st0_3 t) fullShare (hBlock m c t)
    ∗ owns (c : Thread nD τ) (st0_4 t) fullShare (tapBlock m c t)
    ∗ owns (c : Thread nD τ) (st0_5 t) fullShare (outAt m c t))

/-- The body's run at any point, of the first row block or not. -/
theorem run_body (c : Dev nD) (t : Fin cfg0.N) (o : Vec F S1024x512 .bf16) (d : Kept F) (h : Holds m c t.val d) (K : PUnit → sProp 𝕄) :
    iprop(held c (st0_0 t) (st0_1 t) (st0_2 t) (st0_3 t) (st0_4 t) (st0_5 t) scratch
          (xBlock m c t) (bBlock m c t) (cBlock m c t) (hBlock m c t) (tapBlock m c t) o d
        ∗ (held c (st0_0 t) (st0_1 t) (st0_2 t) (st0_3 t) (st0_4 t) (st0_5 t) scratch
            (xBlock m c t) (bBlock m c t) (cBlock m c t) (hBlock m c t) (tapBlock m c t) (outAt m c t) (keep (grid0.coords t) d (tail m c t)) -∗ K ⟨⟩))
      ⊢ wp frame (wpE (defs₀ (F := F)) Variants.none c none) Set.univ (bodyAt0 t) K := by
  unfold outAt tail product bodyAt0
  rw [← above_eq m c t d h]
  by_cases hc : k0_cond1 (grid0.coords t) = 1#1
  · exact run_first c (grid0.coords t) _ _ _ _ _ _ _ _ _ _ _ _ _ _ hc _ _ _ _ _ o d Set.univ K
  · exact run_later c (grid0.coords t) _ _ _ _ _ _ _ _ _ _ _ _ _ _ hc _ _ _ _ _ o d Set.univ K

set_option maxHeartbeats 800000 in
/-- The body's triple at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost between
  simp only [before_x, before_b, before_c, before_h, before_tap]
  rw [show (dats m 0 c).owesAt () t.succ = (dats m 0 c).owesAt () t.castSucc from rfl]
  iintro ⟨⟨⟨%d, %hd, HS⟩, Hg⟩, Ho, ⟨%d0, H0⟩, ⟨%d1, H1⟩, ⟨%d2, H2⟩, ⟨%d3, H3⟩, ⟨%d4, H4⟩, ⟨%d5, H5⟩⟩
  iapply (run_body m c t _ d hd _)
  unfold held
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexact HS
  iintro ⟨H0, H1, H2, H3, H4, H5, HS⟩
  isplitl [HS Hg]
  · isplitl [HS]
    · iexists _; isplitr; · ipureintro; exact holds_succ m c t d hd
      iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body's row in the table of bodies. -/
theorem body_row (t : Fin cfg0.N) : defs₀ (F := F) .tc cfg0.body (cfg0.bodyArgs t (cfg0.slots t)) = bodyAt0 t := by
  unfold defs₀; rw [Defs.onTc_tc]

/-- The obligation the pipeline asks of the body. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : (Pipeline.ΦA spec0 c : sProp 𝕄) ⊢ (dats m 0 c).Φ 0 := by
  show _ ⊢ between m c 0
  rw [launch_invariant]
  unfold between
  iintro ⟨⟨%d, HS⟩, Hg⟩
  isplitl [HS]
  · iexists d; isplitr; · ipureintro; exact fun s hs => absurd hs (Nat.not_lt_zero _)
    iexact HS
  iexact Hg

theorem leave (c : Dev nD) : (dats m 0 c).Φ (Fin.last cfg0.N) ⊢ (Pipeline.ΦA spec0 c : sProp 𝕄) := by
  show between m c _ ⊢ _
  rw [launch_invariant]
  unfold between
  iintro ⟨⟨%d, -, HS⟩, Hg⟩
  isplitl [HS]
  · iexists d; iexact HS
  iexact Hg

set_option backward.isDefEq.respectTransparency.types false in
/-- Every run ends, with the arrays at what the points left and no semaphore left. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

/-- Every run of the convolution ends with its arguments as launched and no semaphore left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The same run with its result named. -/
theorem run : θ_run defs (onTc (τ := τ) (main (F := F))) ⟨m, fun _ => 0, ρ⟩ (fun r => ∀ c : Dev nD,
      r.2.mem ((c : Thread nD τ).loc main_v2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h.1.1 c).1 5, h.2.1 c⟩)
    (θ_run_and (run_main m ρ) (frame m ρ))

/-- Two points' result blocks share no entry. -/
theorem disjoint_out (t t' : Fin cfg0.N) (_ : (cfg0.win 5).flush t = true) (_ : (cfg0.win 5).flush t' = true) (hne : t ≠ t') :
    Disjoint ((cfg0.win 5).blk t).view.set ((cfg0.win 5).blk t').view.set :=
  (cfg0.win 5).disjoint_blk fun h => hne ((by decide +kernel : ∀ t t' : Fin grid0.N, win0_5.index t = win0_5.index t' → t = t') t t' h)

/-- A point's block of the result is what the point left. -/
theorem block_out (c : Dev nD) (t : Fin cfg0.N) :
    ((cfg0.win 5).blk t).view.read (Elt F) ((dats m 0 c).arrAt 5 cfg0.N) = (cfg0.win 5).cut (grid0.coords t) (outAt m c t) :=
  ((dats m 0 c).read_blk_arrAt_eq_flushed 5 (disjoint_out) cfg0.N t t.isLt (flush0_5 t)).trans (by
    show (cfg0.win 5).cut (grid0.coords t) ((dats m 0 c).after 5 t) = _
    rw [after_out])

end Cert.Proof.Conv
end
-- ==== Proof.ConvValue.lean ====
module

public import proofs.«01_k».proof.Proof.ConvFrame
public import proofs.«01_k».proof.Proof.Gen.Reference2Ideal.Run
public import proofs.«01_k».proof.Proof.Rows

/-! The convolution, entry by entry: the first gate times the three-tap convolution of the product of the second gate and the values. -/

@[expose] public section

set_option maxRecDepth 16384

noncomputable section

namespace Cert.Proof.Conv

open Idealize.ShloMosaic Idealize.ShloMosaic.TcCoe Idealize.SL.Sem Idealize.ShloMosaic.Tactic
open Cert.Proof.Rows
open scoped BigOperators

/-- A column of products `u` moved down by `k` rows, zeros above. -/
def shifted (u : Fin 8192 → Fin 2048 → EReal) (k : ℕ) (r : Fin 8192) (d : Fin 2048) : EReal :=
  if k ≤ r.val then u ⟨r.val - k, by omega⟩ d else 0

/-- The gated convolution: the gate `b` times the three taps of `u`. -/
def conv3 (b u : Fin 8192 → Fin 2048 → EReal) (w : Fin 3 → Fin 2048 → EReal) (r : Fin 8192) (d : Fin 2048) : EReal :=
  b r d * ((w 0 d * shifted u 2 r d + w 1 d * shifted u 1 r d) + w 2 d * u r d)

/-- The 2048 columns of the input projection that begin at column `o`. -/
def columns (x : Fin 8192 → Fin 4096 → EReal) (w : Fin 4096 → Fin 11312 → EReal) (o : ℕ) (ho : o + 2048 ≤ 11312) (r : Fin 8192) (d : Fin 2048) : EReal :=
  dot4096 x (fun k (d : Fin 2048) => w k ⟨o + d.val, by omega⟩) r d

/-- The part computed here of the layer: both gates and the values projected, then the gated convolution. -/
def layerPart (x : Fin 8192 → Fin 4096 → EReal) (w : Fin 4096 → Fin 11312 → EReal) (taps : Fin 3 → Fin 2048 → EReal) (r : Fin 8192) (d : Fin 2048) : EReal :=
  conv3 (columns x w 5168 (by norm_num)) (fun r d => columns x w 7216 (by norm_num) r d * columns x w 9264 (by norm_num) r d) taps r d

section Kernel
open Cert.Kernel2Ideal Cert.Kernel2Ideal.Gen

variable (m : (ℓ : Loc nD τ sig) → Buf (Elt Ideal) ℓ) (c : Dev nD)

/-- The normalised activations the launch gave. -/
def argX : FVec Ideal S8192x4096 .bf16 := m ((c : Thread nD τ).loc main_arg0)
/-- The input projection's weights. -/
def argW : FVec Ideal S4096x11312 .f32 := m ((c : Thread nD τ).loc main_arg1)
/-- The convolution's taps. -/
def argT : FVec Ideal S3x2048 .f32 := m ((c : Thread nD τ).loc main_arg2)

theorem idx0 : ∀ t : Fin grid0.N, win0_0.index t (0 : Fin 2) = t.val / 4 ∧ win0_0.index t (1 : Fin 2) = 0 := by decide +kernel
theorem idx1 : ∀ t : Fin grid0.N, win0_1.index t (0 : Fin 2) = 0 ∧ win0_1.index t (1 : Fin 2) = t.val % 4 := by decide +kernel
theorem idx2 : ∀ t : Fin grid0.N, win0_2.index t (0 : Fin 2) = 0 ∧ win0_2.index t (1 : Fin 2) = 4 + t.val % 4 := by decide +kernel
theorem idx3 : ∀ t : Fin grid0.N, win0_3.index t (0 : Fin 2) = 0 ∧ win0_3.index t (1 : Fin 2) = 8 + t.val % 4 := by decide +kernel
theorem idx4 : ∀ t : Fin grid0.N, win0_4.index t (0 : Fin 2) = 0 ∧ win0_4.index t (1 : Fin 2) = t.val % 4 := by decide +kernel
theorem idx5 : ∀ t : Fin grid0.N, win0_5.index t (0 : Fin 2) = t.val / 4 ∧ win0_5.index t (1 : Fin 2) = t.val % 4 := by decide +kernel

/-- The row of the array that a point's block has as row `p`. -/
def row (t : Fin cfg0.N) (p : Fin 1024) : Fin 8192 := ⟨1024 * (t.val / 4) + p.val, by have := Nat.lt_of_lt_of_eq t.isLt N_0; omega⟩
/-- The column of the result that a point's block has as column `e`. -/
def col (t : Fin cfg0.N) (e : Fin 512) : Fin 2048 := ⟨512 * (t.val % 4) + e.val, by omega⟩

/-- The host's slice and cast of the weights: their last 6144 columns. -/
theorem V_w (k : Fin 4096) (d : Fin 6144) :
    (V m c main_v1 : FVec Ideal S4096x6144 .bf16) (ix2 k d) = argW m c (ix2 k ⟨5168 + d.val, by omega⟩) := by
  unfold V argW
  after_results_simp
  pointwise

theorem xBlock_apply (t : Fin cfg0.N) (p : Fin 1024) (k : Fin 4096) :
    (xBlock m c t : FVec Ideal S1024x4096 .bf16) (ix2 p k) = argX m c (ix2 (row t p) k) := by
  have h := idx0 t
  unfold xBlock
  blk_simp [iblk, V_main_arg0]
  refine (congrFun (V_main_arg0 m c) _).trans (congrArg (argX m c) ?_)
  blk_ext [h, row]

theorem tapBlock_apply (t : Fin cfg0.N) (j : Fin 3) (e : Fin 512) :
    (tapBlock m c t : FVec Ideal S3x512 .f32) (ix2 j e) = argT m c (ix2 j (col t e)) := by
  have h := idx4 t
  unfold tapBlock
  blk_simp [iblk, V_main_arg2]
  refine (congrFun (V_main_arg2 m c) _).trans (congrArg (argT m c) ?_)
  blk_ext [h, col]

theorem bBlock_apply (t : Fin cfg0.N) (k : Fin 4096) (e : Fin 512) :
    (bBlock m c t : FVec Ideal S4096x512 .bf16) (ix2 k e) = argW m c (ix2 k ⟨5168 + (col t e).val, by omega⟩) := by
  have h := idx1 t
  unfold bBlock
  blk_simp [iblk]
  refine Eq.trans (congrArg (V m c main_v1 : FVec Ideal S4096x6144 .bf16) ?_) (V_w m c k ⟨(col t e).val, by omega⟩)
  blk_ext [h, col]

theorem cBlock_apply (t : Fin cfg0.N) (k : Fin 4096) (e : Fin 512) :
    (cBlock m c t : FVec Ideal S4096x512 .bf16) (ix2 k e) = argW m c (ix2 k ⟨7216 + (col t e).val, by omega⟩) := by
  have h := idx2 t
  unfold cBlock
  blk_simp [iblk]
  refine Eq.trans (congrArg (V m c main_v1 : FVec Ideal S4096x6144 .bf16) ?_) ((V_w m c k ⟨2048 + (col t e).val, by omega⟩).trans ?_)
  · blk_ext [h, col]
  · exact congrArg (fun n => argW m c (ix2 k n)) (Fin.ext (by show 5168 + (2048 + _) = 7216 + _; omega))

theorem hBlock_apply (t : Fin cfg0.N) (k : Fin 4096) (e : Fin 512) :
    (hBlock m c t : FVec Ideal S4096x512 .bf16) (ix2 k e) = argW m c (ix2 k ⟨9264 + (col t e).val, by omega⟩) := by
  have h := idx3 t
  unfold hBlock
  blk_simp [iblk]
  refine Eq.trans (congrArg (V m c main_v1 : FVec Ideal S4096x6144 .bf16) ?_) ((V_w m c k ⟨4096 + (col t e).val, by omega⟩).trans ?_)
  · blk_ext [h, col]
  · exact congrArg (fun n => argW m c (ix2 k n)) (Fin.ext (by show 5168 + (4096 + _) = 9264 + _; omega))

/-- The first gate over the whole array. -/
abbrev gate (r : Fin 8192) (d : Fin 2048) : EReal :=
  columns (fun r k => argX m c (ix2 r k)) (fun k n => argW m c (ix2 k n)) 5168 (by norm_num) r d

/-- The product of the second gate and the values over the whole array. -/
abbrev whole (r : Fin 8192) (d : Fin 2048) : EReal :=
  columns (fun r k => argX m c (ix2 r k)) (fun k n => argW m c (ix2 k n)) 7216 (by norm_num) r d
    * columns (fun r k => argX m c (ix2 r k)) (fun k n => argW m c (ix2 k n)) 9264 (by norm_num) r d

/-- A block's product is its part of the whole. -/
theorem product_apply (t : Fin cfg0.N) (p : Fin 1024) (e : Fin 512) :
    (product m c t : FVec Ideal S1024x512 .f32) (ix2 p e) = whole m c (row t p) (col t e) := by
  unfold product whole columns dot4096
  pointwise [k0_pay4]
  simp only [xBlock_apply, cBlock_apply, hBlock_apply]

/-- A block's first gate is its part of the whole. -/
theorem gate_apply (t : Fin cfg0.N) (p : Fin 1024) (e : Fin 512) :
    (k0_pay3 (F := Ideal) (xBlock m c t) (bBlock m c t)) (ix2 p e) = gate m c (row t p) (col t e) := by
  unfold gate columns dot4096
  pointwise [k0_pay3]
  simp only [xBlock_apply, bBlock_apply]

/-- The kept rows are the last eight of the product. -/
theorem tail_apply (t : Fin cfg0.N) (q : Fin 8) (e : Fin 512) :
    (tail m c t : FVec Ideal S1x8x512 .f32) (ix3 0 q e) = (product m c t : FVec Ideal S1024x512 .f32) (ix2 ⟨1016 + q.val, by omega⟩ e) := by
  unfold tail
  pointwise [k0_pay2]

/-- The block's product moved down by `k` rows, the kept rows above it. -/
def extended (t : Fin cfg0.N) (k : ℕ) (p : Fin 1024) (e : Fin 512) : EReal :=
  if k ≤ p.val then (product m c t : FVec Ideal S1024x512 .f32) (ix2 ⟨p.val - k, by omega⟩ e)
  else (rowsAbove m c t : FVec Ideal S1x8x512 .f32) (ix3 0 ⟨(8 + p.val - k) % 8, Nat.mod_lt _ (by norm_num)⟩ e)

/-- For a shift of at most eight rows that is the block's part of the whole product moved down. -/
theorem extended_eq (t : Fin cfg0.N) (k : ℕ) (hk : k ≤ 8) (p : Fin 1024) (e : Fin 512) :
    extended m c t k p e = shifted (whole m c) k (row t p) (col t e) := by
  unfold extended shifted
  have hr : (row t p).val = 1024 * (t.val / 4) + p.val := rfl
  by_cases hp : k ≤ p.val
  · rw [if_pos hp, if_pos (by omega), product_apply]
    exact congrArg (fun r => whole m c r (col t e)) (Fin.ext (by show 1024 * (t.val / 4) + (p.val - k) = (row t p).val - k; omega))
  · rw [if_neg hp]
    unfold rowsAbove
    by_cases ht : t.val < 4
    · rw [if_pos ht, if_neg (by omega)]
      pointwise [k0_pay9]
    · rw [if_neg ht, if_pos (by omega), tail_apply, product_apply]
      have hu : (up t).val = t.val - 4 := rfl
      have hc : col (up t) e = col t e := Fin.ext (by show 512 * ((t.val - 4) % 4) + e.val = 512 * (t.val % 4) + e.val; omega)
      rw [hc]
      exact congrArg (fun r => whole m c r (col t e)) (Fin.ext (by
        show 1024 * ((t.val - 4) / 4) + (1016 + (8 + p.val - k) % 8) = (row t p).val - k; omega))

/-- The rows of the block from the eighth on, as if the block closed up on itself. -/
theorem inner_apply (x0 : FVec Ideal S1024x4096 .bf16) (x1 x2 x3 : FVec Ideal S4096x512 .bf16) (x4 : FVec Ideal S3x512 .f32) (p : Fin 1024) (e : Fin 512)
    (hp : 8 ≤ p.val) :
    (k0_pay8 (F := Ideal) x0 x1 x2 x3 x4) (ix2 p e) = k0_pay3 (F := Ideal) x0 x1 (ix2 p e)
      * ((x4 (ix2 0 e) * k0_pay4 (F := Ideal) x0 x2 x3 (ix2 ⟨p.val - 2, by omega⟩ e)
          + x4 (ix2 1 e) * k0_pay4 (F := Ideal) x0 x2 x3 (ix2 ⟨p.val - 1, by omega⟩ e))
        + x4 (ix2 2 e) * k0_pay4 (F := Ideal) x0 x2 x3 (ix2 p e)) := by
  generalize hb : k0_pay3 (F := Ideal) x0 x1 = b
  generalize hu : k0_pay4 (F := Ideal) x0 x2 x3 = u
  unfold k0_pay8
  rw [hb, hu]
  pointwise [k0_pay5, k0_pay6, k0_pay7]
  have e2 : (p.val + 1024 - 2) % 1024 = p.val - 2 := by omega
  have e1 : (p.val + 1024 - 1) % 1024 = p.val - 1 := by omega
  simp only [e2, e1]

/-- The first eight rows of the block, the rows `h` above them. -/
theorem first_apply (b u : FVec Ideal S1024x512 .f32) (w : FVec Ideal S3x512 .f32) (h : FVec Ideal S1x8x512 .f32) (u8 : FVec Ideal S8x512 .f32)
    (hu : ∀ (q : Fin 8) (e : Fin 512), u8 (ix2 q e) = u (ix2 ⟨q.val, by omega⟩ e)) (p : Fin 8) (e : Fin 512) :
    (k0_pay1 (F := Ideal) b u (k0_pay5 w) (k0_pay6 w) (k0_pay7 w) (k0_pay10 h) u8) (ix2 p e) = b (ix2 ⟨p.val, by omega⟩ e)
      * ((w (ix2 0 e) * (if 2 ≤ p.val then u (ix2 ⟨p.val - 2, by omega⟩ e) else h (ix3 0 ⟨(8 + p.val - 2) % 8, Nat.mod_lt _ (by norm_num)⟩ e))
          + w (ix2 1 e) * (if 1 ≤ p.val then u (ix2 ⟨p.val - 1, by omega⟩ e) else h (ix3 0 ⟨(8 + p.val - 1) % 8, Nat.mod_lt _ (by norm_num)⟩ e)))
        + w (ix2 2 e) * u (ix2 ⟨p.val, by omega⟩ e)) := by
  have key : ∀ k : ℕ, k ≤ 8 → 0 < k → ∀ (ha : (8 + p.val + 16 - k) % 16 < 8 → (8 + p.val + 16 - k) % 16 < 8) (hb : ¬ (8 + p.val + 16 - k) % 16 < 8 → (8 + p.val + 16 - k) % 16 - 8 < 8),
      (if h' : (8 + p.val + 16 - k) % 16 < 8 then (k0_pay10 (F := Ideal) h) (ix2 ⟨(8 + p.val + 16 - k) % 16, ha h'⟩ e) else u8 (ix2 ⟨(8 + p.val + 16 - k) % 16 - 8, hb h'⟩ e))
        = if k ≤ p.val then u (ix2 ⟨p.val - k, by omega⟩ e) else h (ix3 0 ⟨(8 + p.val - k) % 8, Nat.mod_lt _ (by norm_num)⟩ e) := by
    intro k hk hk0 ha hb
    by_cases hp : k ≤ p.val
    · rw [dif_neg (by omega), if_pos hp, hu]
      exact congrArg (fun n => u (ix2 n e)) (Fin.ext (by show (8 + p.val + 16 - k) % 16 - 8 = p.val - k; omega))
    · rw [dif_pos (by omega), if_neg hp]
      pointwise [k0_pay10]
      exact congrArg (fun n => h (ix3 0 n e)) (Fin.ext (by show (8 + p.val + 16 - k) % 16 = (8 + p.val - k) % 8; omega))
  rw [← key 2 (by norm_num) (by norm_num) (fun h => h) (fun h => by omega), ← key 1 (by norm_num) (by norm_num) (fun h => h) (fun h => by omega)]
  generalize k0_pay10 (F := Ideal) h = h8
  pointwise [k0_pay1, k0_pay5, k0_pay6, k0_pay7]

/-- The product's first eight rows as the body takes them. -/
theorem head_apply (x0 : FVec Ideal S1024x4096 .bf16) (x2 x3 : FVec Ideal S4096x512 .bf16) (q : Fin 8) (e : Fin 512) :
    (k0_pay11 (F := Ideal) x0 x2 x3) (ix2 q e) = (k0_pay4 (F := Ideal) x0 x2 x3) (ix2 ⟨q.val, by omega⟩ e) := by
  pointwise [k0_pay11]

/-- What a point leaves, entry by entry, from its blocks and the rows above. -/
theorem outAt_apply (t : Fin cfg0.N) (p : Fin 1024) (e : Fin 512) :
    (outAt m c t : FVec Ideal S1024x512 .bf16) (ix2 p e) = (k0_pay3 (F := Ideal) (xBlock m c t) (bBlock m c t)) (ix2 p e)
      * (((tapBlock m c t : FVec Ideal S3x512 .f32) (ix2 0 e) * extended m c t 2 p e
          + (tapBlock m c t : FVec Ideal S3x512 .f32) (ix2 1 e) * extended m c t 1 p e)
        + (tapBlock m c t : FVec Ideal S3x512 .f32) (ix2 2 e) * (product m c t : FVec Ideal S1024x512 .f32) (ix2 p e)) := by
  unfold outAt result VecWindow.put extended
  by_cases hp : p.val < 8
  · have hin : ∀ a : Fin S1024x512.rank, (![0, 0] : Fin 2 → ℕ) a ≤ ((ix2 p e : S1024x512.Idx) a).val
        ∧ ((ix2 p e : S1024x512.Idx) a).val < (![0, 0] : Fin 2 → ℕ) a + S8x512.size a := by
      intro a
      match a with
      | 0 => exact ⟨Nat.zero_le _, by show p.val < 0 + 8; omega⟩
      | 1 => exact ⟨Nat.zero_le _, by show e.val < 0 + 512; omega⟩
    rw [dif_pos hin]
    have hl : Rect.unitLocal (s := S1024x512) (off := ![0, 0]) (size := S8x512.size) (ix2 p e) hin = ix2 (⟨p.val, hp⟩ : Fin 8) e := by
      funext a
      match a with
      | 0 => exact Fin.ext (Nat.sub_zero _)
      | 1 => exact Fin.ext (Nat.sub_zero _)
    rw [hl]
    exact first_apply _ _ _ _ _ (head_apply _ _ _) _ _
  · rw [dif_neg (fun h => hp (by have := (h 0).2; change p.val < 0 + 8 at this; omega)), if_pos (by omega), if_pos (by omega)]
    exact inner_apply _ _ _ _ _ p e (by omega)

/-- The kernel's result, entry by entry. -/
theorem kernel_apply (r : Fin 8192) (d : Fin 2048) :
    ((dats m 0 c).arrAt 5 cfg0.N : FVec Ideal S8192x2048 .bf16) (ix2 r d)
      = layerPart (fun r k => argX m c (ix2 r k)) (fun k n => argW m c (ix2 k n)) (fun j d => argT m c (ix2 j d)) r d := by
  let t : Fin cfg0.N := ⟨4 * (r.val / 1024) + d.val / 512, Nat.lt_of_lt_of_eq (by have := r.isLt; have := d.isLt; omega : _ < 32) N_0.symm⟩
  let p : Fin 1024 := inBlock r.val
  let e : Fin 512 := ⟨d.val % 512, Nat.mod_lt _ (by norm_num)⟩
  have ht : t.val = 4 * (r.val / 1024) + d.val / 512 := rfl
  have hr : row t p = r := Fin.ext (by show 1024 * (t.val / 4) + r.val % 1024 = r.val; have := d.isLt; omega)
  have hd : col t e = d := Fin.ext (by show 512 * (t.val % 4) + d.val % 512 = d.val; have := d.isLt; omega)
  have h := idx5 t
  have hr' : 1024 * (t.val / 4) + p.val = r.val := congrArg Fin.val hr
  have hd' : 512 * (t.val % 4) + e.val = d.val := congrArg Fin.val hd
  refine Eq.trans ?_ ((congrFun (block_out m c t) (ix2 p e)).trans ?_)
  · refine congrArg ((dats m 0 c).arrAt 5 cfg0.N : FVec Ideal S8192x2048 .bf16) ?_
    blk_ext [h, hr', hd']
  · refine (outAt_apply m c t p e).trans ?_
    rw [gate_apply, extended_eq m c t 2 (by norm_num), extended_eq m c t 1 (by norm_num), product_apply, tapBlock_apply, tapBlock_apply, tapBlock_apply, hr, hd]
    rfl

end Kernel

section Reference
open Cert.Reference2Ideal Cert.Reference2Ideal.Gen

variable (m : (ℓ : Loc nD τ sig) → Buf (Elt Ideal) ℓ) (c : Dev nD)

/-- The reference's normalised activations. -/
def refX : FVec Ideal S8192x4096 .bf16 := m ((c : Thread nD τ).loc main_arg0)
/-- The reference's weights. -/
def refW : FVec Ideal S4096x11312 .f32 := m ((c : Thread nD τ).loc main_arg1)
/-- The reference's taps. -/
def refT : FVec Ideal S3x2048 .f32 := m ((c : Thread nD τ).loc main_arg2)

/-- The reference's projection onto both gates and the values. -/
def projected : FVec Ideal S8192x6144 .f32 :=
  Host.dotGeneral dot_S8192x4096_S4096x6144_S8192x6144_1_0_0_1_n_n none (extf .f32 (refX m c) bitsLt_bf16_f32)
    (extractStridedSlice S4096x6144 ![0, 5168] (refW m c) slices_S4096x11312_S4096x6144_0_5168)

/-- The reference's product of the second gate and the values. -/
def gated (y : FVec Ideal S8192x6144 .f32) : FVec Ideal S8192x2048 .f32 :=
  mulf (extractStridedSlice S8192x2048 ![0, 2048] y slices_S8192x6144_S8192x2048_0_2048)
    (extractStridedSlice S8192x2048 ![0, 4096] y slices_S8192x6144_S8192x2048_0_4096)

/-- The product moved down by two rows. -/
def downTwo (u : FVec Ideal S8192x2048 .f32) : FVec Ideal S8192x2048 .f32 :=
  extractStridedSlice S8192x2048 ![0, 0]
    (pad S8194x2048 ![2, 0] ![0, 0] ![0, 0] u (sitofp .f32 (constantI S_ 32 0#32)) pads_S8192x2048_S8194x2048_200_000 h_S_)
    slices_S8194x2048_S8192x2048_0_0

/-- The product moved down by one row. -/
def downOne (u : FVec Ideal S8192x2048 .f32) : FVec Ideal S8192x2048 .f32 :=
  extractStridedSlice S8192x2048 ![0, 0]
    (pad S8193x2048 ![1, 0] ![0, 0] ![0, 0] u (sitofp .f32 (constantI S_ 32 0#32)) pads_S8192x2048_S8193x2048_100_000 h_S_)
    slices_S8193x2048_S8192x2048_0_0

/-- One tap, a row of length 2048, repeated over all rows. -/
def tapRows (w : FVec Ideal S1x2048 .f32) : FVec Ideal S8192x2048 .f32 :=
  broadcastInDim S8192x2048 ![0, 1] bcast_S1x2048_S8192x2048_0_1
    (broadcastInDim S1x2048 ![1] bcast_S2048_S1x2048_1 (shapeCast _ w shapeCasts_S1x2048_S2048))

/-- The reference's result. -/
def refTerm : FVec Ideal S8192x2048 .bf16 :=
  truncf .bf16 (mulf (extractStridedSlice S8192x2048 ![0, 0] (projected m c) slices_S8192x6144_S8192x2048_0_0)
    (addf (addf
        (mulf (tapRows (extractStridedSlice S1x2048 ![0, 0] (refT m c) slices_S3x2048_S1x2048_0_0)) (downTwo (gated (projected m c))))
        (mulf (tapRows (extractStridedSlice S1x2048 ![1, 0] (refT m c) slices_S3x2048_S1x2048_1_0)) (downOne (gated (projected m c)))))
      (mulf (tapRows (extractStridedSlice S1x2048 ![2, 0] (refT m c) slices_S3x2048_S1x2048_2_0)) (gated (projected m c))))) bitsLt_bf16_f32

theorem projected_apply (r : Fin 8192) (n : Fin 6144) :
    projected m c (ix2 r n) = dot4096 (fun r k => refX m c (ix2 r k)) (fun k (n : Fin 6144) => refW m c (ix2 k ⟨5168 + n.val, by omega⟩)) r n := by
  unfold projected dot4096
  pointwise

theorem gated_apply (r : Fin 8192) (d : Fin 2048) :
    gated (projected m c) (ix2 r d)
      = columns (fun r k => refX m c (ix2 r k)) (fun k n => refW m c (ix2 k n)) 7216 (by norm_num) r d
        * columns (fun r k => refX m c (ix2 r k)) (fun k n => refW m c (ix2 k n)) 9264 (by norm_num) r d := by
  have e := projected_apply m c
  generalize projected m c = y at e ⊢
  unfold gated
  pointwise
  rw [e, e]
  unfold columns dot4096
  refine congrArg₂ (· * ·) ?_ ?_
  · refine Finset.sum_congr rfl fun k _ => congrArg (fun n => refX m c (ix2 r k) * refW m c (ix2 k n)) (Fin.ext ?_)
    show 5168 + (2048 + d.val) = 7216 + d.val
    omega
  · refine Finset.sum_congr rfl fun k _ => congrArg (fun n => refX m c (ix2 r k) * refW m c (ix2 k n)) (Fin.ext ?_)
    show 5168 + (4096 + d.val) = 9264 + d.val
    omega

/-- The padding is zero. -/
theorem padding_zero : (FloatOps.sitofp (F := Ideal) .f32 (0#32) : EReal) = 0 := by
  simp [FloatOps.sitofp]

theorem downTwo_apply (u : FVec Ideal S8192x2048 .f32) (r : Fin 8192) (d : Fin 2048) :
    downTwo u (ix2 r d) = shifted (fun r d => u (ix2 r d)) 2 r d := by
  unfold downTwo shifted
  pointwise
  rw [padding_zero]
  by_cases h : 2 ≤ r.val
  · rw [dif_pos ⟨h, by omega⟩, if_pos h]
  · rw [dif_neg (fun h' => h h'.1), if_neg h]

theorem downOne_apply (u : FVec Ideal S8192x2048 .f32) (r : Fin 8192) (d : Fin 2048) :
    downOne u (ix2 r d) = shifted (fun r d => u (ix2 r d)) 1 r d := by
  unfold downOne shifted
  pointwise
  rw [padding_zero]
  by_cases h : 1 ≤ r.val
  · rw [dif_pos ⟨h, by omega⟩, if_pos h]
  · rw [dif_neg (fun h' => h h'.1), if_neg h]

theorem tapRows_apply (w : FVec Ideal S1x2048 .f32) (r : Fin 8192) (d : Fin 2048) :
    tapRows w (ix2 r d) = w (ix2 0 d) := by
  unfold tapRows
  pointwise

/-- The reference's result, entry by entry. -/
theorem reference_apply (r : Fin 8192) (d : Fin 2048) :
    refTerm m c (ix2 r d)
      = layerPart (fun r k => refX m c (ix2 r k)) (fun k n => refW m c (ix2 k n)) (fun j d => refT m c (ix2 j d)) r d := by
  unfold refTerm layerPart conv3
  have e2 := downTwo_apply (gated (projected m c))
  have e1 := downOne_apply (gated (projected m c))
  have e0 := gated_apply m c
  have hp := projected_apply m c
  simp only [e0] at e1 e2
  generalize downTwo (gated (projected m c)) = d2 at e2 ⊢
  generalize downOne (gated (projected m c)) = d1 at e1 ⊢
  generalize gated (projected m c) = u at e0 ⊢
  generalize projected m c = y at hp ⊢
  have t := tapRows_apply
  pointwise
  simp only [t, e0, e1, e2, hp]
  pointwise
  rfl

end Reference

/-- The same arguments give the same result. -/
theorem kernel_eq_reference (m : (ℓ : Loc Cert.Kernel2Ideal.nD Cert.Kernel2Ideal.τ Cert.Kernel2Ideal.sig) → Buf (Elt Ideal) ℓ) (c : Dev Cert.Kernel2Ideal.nD)
    (m' : (ℓ : Loc Cert.Reference2Ideal.nD Cert.Reference2Ideal.τ Cert.Reference2Ideal.sig) → Buf (Elt Ideal) ℓ)
    (h0 : argX m c = refX m' c) (h1 : argW m c = refW m' c) (h2 : argT m c = refT m' c) :
    refTerm m' c = (dats m 0 c).arrAt 5 Cert.Kernel2Ideal.cfg0.N := by
  refine funext fun i => ?_
  obtain ⟨r, d, rfl⟩ : ∃ (r : Fin 8192) (d : Fin 2048), i = ix2 r d := ⟨i 0, i 1, by funext a; match a with | 0 => rfl | 1 => rfl⟩
  refine (reference_apply m' c r d).trans (Eq.trans ?_ (kernel_apply m c r d).symm)
  rw [h0, h1, h2]

end Cert.Proof.Conv
end
-- ==== Proof.ConvBits.lean ====
module

public import proofs.«01_k».proof.Defs
public import proofs.«01_k».proof.Proof.Gen.Kernel2.Frame
public import proofs.«01_k».proof.Proof.ConvFrame

@[expose] public section

set_option maxRecDepth 16384

noncomputable section

namespace Cert.Proof.Conv

open Idealize.ShloMosaic Idealize.SL.Sem

/-! The convolution as the kernel's program states it, over machine words. It is operation for operation the program whose
run the other modules give over any floats, so their frame holds of it. -/

theorem part_eq : @Cert.Kernel2.k0_part1 Bits _ _ = @Cert.Kernel2Ideal.k0_part1 Bits _ _ := by
  unfold Cert.Kernel2.k0_part1 Cert.Kernel2Ideal.k0_part1
  rfl
theorem body_eq : @Cert.Kernel2.cc0_inproj_short_conv Bits _ _ = @Cert.Kernel2Ideal.cc0_inproj_short_conv Bits _ _ := by
  unfold Cert.Kernel2.cc0_inproj_short_conv Cert.Kernel2Ideal.cc0_inproj_short_conv
  rw [part_eq]
  rfl
theorem bodies_eq : (Cert.Kernel2.defs₀ (F := Bits)) = Cert.Kernel2Ideal.defs₀ (F := Bits) := by
  unfold Cert.Kernel2.defs₀ Cert.Kernel2Ideal.defs₀
  rw [body_eq]
  refine congrArg Defs.onTc (funext fun l => funext fun a => ?_)
  match l, a with
  | 0, (t, s) => rfl
theorem defs_eq : (Cert.Kernel2.defs (F := Bits)) = Cert.Kernel2Ideal.defs (F := Bits) := by
  unfold Cert.Kernel2.defs Cert.Kernel2Ideal.defs
  rw [bodies_eq]
  rfl
theorem main_eq : (Cert.Kernel2.main (F := Bits)) = Cert.Kernel2Ideal.main (F := Bits) := rfl

/-- The frame of the kernel's own program. -/
theorem bits_frame : quiescent_Kernel2 := fun m ρ _ => by
  rw [defs_eq, main_eq]
  exact frame (F := Bits) m ρ

end Cert.Proof.Conv
end
-- ==== Proof.Query.lean ====
module

public import proofs.«01_k».proof.Proof.Gen.Kernel3Ideal.Value
public import proofs.«01_k».proof.Proof.Gen.Reference3Ideal.Run
public import proofs.«01_k».proof.Proof.Rows

/-! The queries: the first 2048 columns of the input projection, times the scale of the scores. -/

@[expose] public section

set_option maxRecDepth 16384

noncomputable section

namespace Cert.Proof.Query

open Idealize.ShloMosaic Idealize.ShloMosaic.TcCoe Idealize.SL.Sem Idealize.ShloMosaic.Tactic
open Cert.Proof.Rows
open scoped BigOperators

section Kernel
open Cert.Kernel3Ideal Cert.Kernel3Ideal.Gen

variable (m : (ℓ : Loc nD τ sig) → Buf (Elt Ideal) ℓ) (c : Dev nD)

/-- The normalised activations the launch gave. -/
def argX : FVec Ideal S8192x4096 .bf16 := m ((c : Thread nD τ).loc main_arg0)
/-- The input projection's weights. -/
def argW : FVec Ideal S4096x11312 .f32 := m ((c : Thread nD τ).loc main_arg1)
/-- The block of activations a grid point finds. -/
def xBlock (t : Fin cfg0.N) : FVec Ideal S1024x4096 .bf16 := iblk m c 0 t
/-- The block of weights a grid point finds. -/
def wBlock (t : Fin cfg0.N) : FVec Ideal S4096x1024 .bf16 := X0_1 m c t

theorem idx0 : ∀ t : Fin grid0.N, win0_0.index t (0 : Fin 2) = t.val / 2 ∧ win0_0.index t (1 : Fin 2) = 0 := by decide +kernel
theorem idx1 : ∀ t : Fin grid0.N, win0_1.index t (0 : Fin 2) = 0 ∧ win0_1.index t (1 : Fin 2) = t.val % 2 := by decide +kernel
theorem idx2 : ∀ t : Fin grid0.N, win0_2.index t (0 : Fin 2) = t.val / 2 ∧ win0_2.index t (1 : Fin 2) = t.val % 2 := by decide +kernel
theorem flush2 : ∀ t : Fin cfg0.N, (cfg0.win 2).flush t = true := by decide +kernel

/-- The host's cast of the weights is those weights, over the reals. -/
theorem V_w : V m c main_v0 = argW m c := by
  unfold V argW
  after_results_simp
  rfl

/-- The block of activations at point `t`: the rows of row block `t / 2`. -/
theorem xBlock_apply (t : Fin cfg0.N) (r : Fin 1024) (k : Fin 4096) (hb : 1024 * (t.val / 2) + r.val < 8192) :
    xBlock m c t (ix2 r k) = argX m c (ix2 ⟨1024 * (t.val / 2) + r.val, hb⟩ k) := by
  have h := idx0 t
  unfold xBlock
  blk_simp [iblk, V_main_arg0]
  refine (congrFun (V_main_arg0 m c) _).trans (congrArg (argX m c) ?_)
  blk_ext [h]

/-- The block of weights at point `t`: columns from 0 on, in blocks of 1024, block `t % 2`. -/
theorem wBlock_apply (t : Fin cfg0.N) (k : Fin 4096) (d : Fin 1024) :
    wBlock m c t (ix2 k d) = argW m c (ix2 k ⟨1024 * (t.val % 2) + d.val, by omega⟩) := by
  have h := idx1 t
  unfold wBlock X0_1 Pipeline.Window.fill
  rw [dif_pos (moved0_1 t _)]
  blk_simp [iblk]
  refine (congrFun (V_w m c) _).trans (congrArg (argW m c) ?_)
  blk_ext [h]

/-- What the body leaves in the result's buffer at a point, entry by entry, from its two blocks. -/
theorem out_apply (t : Fin cfg0.N) (r d : Fin 1024) :
    (outsAt0 m c t : FVec Ideal S1024x1024 .bf16) (ix2 r d) = (∑ k : Fin 4096, xBlock m c t (ix2 r k) * wBlock m c t (ix2 k d)) * Ideal.ofBits .f32 0x3E0293EE#32 := by
  unfold outsAt0 xBlock wBlock
  frame_out
  pointwise [k0_pay1]

/-- The kernel's result, entry by entry. -/
theorem kernel_apply (r : Fin 8192) (d : Fin 2048) :
    ((dats m 0 c).arrAt 2 cfg0.N : FVec Ideal S8192x2048 .bf16) (ix2 r d)
      = dot4096 (fun r k => argX m c (ix2 r k)) (fun k (d : Fin 2048) => argW m c (ix2 k ⟨d.val, by omega⟩)) r d * Ideal.ofBits .f32 0x3E0293EE#32 := by
  let t : Fin cfg0.N := ⟨2 * (r.val / 1024) + d.val / 1024, by have := r.isLt; have := d.isLt; change _ < 16; omega⟩
  have hr : 1024 * (t.val / 2) + (inBlock r.val).val = r.val := block_add _ _ (by have := d.isLt; change (2 * (r.val / 1024) + d.val / 1024) / 2 = _; omega)
  have hd : 1024 * (t.val % 2) + (inBlock d.val).val = d.val := block_add _ _ (by have := d.isLt; change (2 * (r.val / 1024) + d.val / 1024) % 2 = _; omega)
  have h := idx2 t
  refine Eq.trans ?_ ((congrFun (Value.blocks2 m c t (flush2 t)) (ix2 (inBlock r.val) (inBlock d.val))).trans ?_)
  · refine congrArg ((dats m 0 c).arrAt 2 cfg0.N : FVec Ideal S8192x2048 .bf16) ?_
    blk_ext [h, hr, hd]
  · rw [Value.flushed2]
    refine (out_apply m c t _ _).trans ?_
    refine congrArg (· * Ideal.ofBits .f32 0x3E0293EE#32) ?_
    refine Finset.sum_congr rfl fun k _ => ?_
    rw [xBlock_apply m c t _ k (by omega), wBlock_apply m c t k _]
    simp only [hr, hd]

end Kernel

section Reference
open Cert.Reference3Ideal Cert.Reference3Ideal.Gen

variable (m : (ℓ : Loc nD τ sig) → Buf (Elt Ideal) ℓ) (c : Dev nD)

/-- The reference's normalised activations. -/
def refX : FVec Ideal S8192x4096 .bf16 := m ((c : Thread nD τ).loc main_arg0)
/-- The reference's weights. -/
def refW : FVec Ideal S4096x11312 .f32 := m ((c : Thread nD τ).loc main_arg1)

/-- The reference's result: the activations times those columns of the weights, times the scale. -/
def refOut : FVec Ideal S8192x2048 .bf16 :=
  truncf .bf16 (mulf (Host.dotGeneral dot_S8192x4096_S4096x2048_S8192x2048_1_0_0_1_n_n none (extf .f32 (refX m c) bitsLt_bf16_f32) (extractStridedSlice S4096x2048 ![0, 0] (refW m c) slices_S4096x11312_S4096x2048_0_0)) (broadcastInDim S8192x2048 ![] bcast_S_S8192x2048 (constant S_ .f32 0x3E0293EE#32))) bitsLt_bf16_f32

/-- The reference's result, entry by entry. -/
theorem reference_apply (r : Fin 8192) (d : Fin 2048) :
    refOut m c (ix2 r d)
      = dot4096 (fun r k => refX m c (ix2 r k)) (fun k (d : Fin 2048) => refW m c (ix2 k ⟨d.val, by omega⟩)) r d * Ideal.ofBits .f32 0x3E0293EE#32 := by
  unfold refOut dot4096
  pointwise

end Reference

/-- From arguments that agree, the kernel's result is the reference's. -/
theorem kernel_eq_reference (m : (ℓ : Loc Cert.Kernel3Ideal.nD Cert.Kernel3Ideal.τ Cert.Kernel3Ideal.sig) → Buf (Elt Ideal) ℓ)
    (c : Dev Cert.Kernel3Ideal.nD)
    (m' : (ℓ : Loc Cert.Reference3Ideal.nD Cert.Reference3Ideal.τ Cert.Reference3Ideal.sig) → Buf (Elt Ideal) ℓ)
    (h0 : argX m c = refX m' c) (h1 : argW m c = refW m' c) :
    refOut m' c = (Cert.Kernel3Ideal.Gen.dats m 0 c).arrAt 2 Cert.Kernel3Ideal.cfg0.N := by
  refine funext fun i => ?_
  obtain ⟨r, d, rfl⟩ : ∃ (r : Fin 8192) (d : Fin 2048), i = ix2 r d := ⟨i 0, i 1, by funext a; match a with | 0 => rfl | 1 => rfl⟩
  refine (reference_apply m' c r d).trans (Eq.trans ?_ (kernel_apply m c r d).symm)
  rw [h0, h1]

end Cert.Proof.Query
end
-- ==== Proof.CompressKV.lean ====
module

public import proofs.«01_k».proof.Proof.Gen.Kernel4Ideal.Value
public import proofs.«01_k».proof.Proof.Gen.Reference4Ideal.Run
public import proofs.«01_k».proof.Proof.Rows

/-! The keys and values that are compressed: columns 2048 to 3071 of the input projection. -/

@[expose] public section

set_option maxRecDepth 16384

noncomputable section

namespace Cert.Proof.CompressKV

open Idealize.ShloMosaic Idealize.ShloMosaic.TcCoe Idealize.SL.Sem Idealize.ShloMosaic.Tactic
open Cert.Proof.Rows
open scoped BigOperators

section Kernel
open Cert.Kernel4Ideal Cert.Kernel4Ideal.Gen

variable (m : (ℓ : Loc nD τ sig) → Buf (Elt Ideal) ℓ) (c : Dev nD)

/-- The normalised activations the launch gave. -/
def argX : FVec Ideal S8192x4096 .bf16 := m ((c : Thread nD τ).loc main_arg0)
/-- The input projection's weights. -/
def argW : FVec Ideal S4096x11312 .f32 := m ((c : Thread nD τ).loc main_arg1)
/-- The block of activations a grid point finds. -/
def xBlock (t : Fin cfg0.N) : FVec Ideal S1024x4096 .bf16 := iblk m c 0 t
/-- The block of weights a grid point finds. -/
def wBlock (t : Fin cfg0.N) : FVec Ideal S4096x1024 .bf16 := X0_1 m c t

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 2 := by decide +kernel
theorem idx2 : ∀ t : Fin grid0.N, win0_2.index t (0 : Fin 2) = t.val ∧ win0_2.index t (1 : Fin 2) = 0 := by decide +kernel
theorem flush2 : ∀ t : Fin cfg0.N, (cfg0.win 2).flush t = true := by decide +kernel

/-- The host's cast of the weights is those weights, over the reals. -/
theorem V_w : V m c main_v0 = argW m c := by
  unfold V argW
  after_results_simp
  rfl

/-- The block of activations at point `t`: the rows of row block `t`. -/
theorem xBlock_apply (t : Fin cfg0.N) (r : Fin 1024) (k : Fin 4096) (hb : 1024 * t.val + r.val < 8192) :
    xBlock m c t (ix2 r k) = argX m c (ix2 ⟨1024 * t.val + r.val, hb⟩ k) := by
  have h := idx0 t
  unfold xBlock
  blk_simp [iblk, V_main_arg0]
  refine (congrFun (V_main_arg0 m c) _).trans (congrArg (argX m c) ?_)
  blk_ext [h]

/-- The block of weights at point `t`: the 1024 columns from column 2048 on. -/
theorem wBlock_apply (t : Fin cfg0.N) (k : Fin 4096) (d : Fin 1024) :
    wBlock m c t (ix2 k d) = argW m c (ix2 k ⟨2048 + d.val, by omega⟩) := by
  have h := idx1 t
  unfold wBlock X0_1 Pipeline.Window.fill
  rw [dif_pos (moved0_1 t _)]
  blk_simp [iblk]
  refine (congrFun (V_w m c) _).trans (congrArg (argW m c) ?_)
  blk_ext [h]

/-- What the body leaves in the result's buffer at a point, entry by entry, from its two blocks. -/
theorem out_apply (t : Fin cfg0.N) (r d : Fin 1024) :
    (outsAt0 m c t : FVec Ideal S1024x1024 .f32) (ix2 r d) = ∑ k : Fin 4096, xBlock m c t (ix2 r k) * wBlock m c t (ix2 k d) := by
  unfold outsAt0 xBlock wBlock
  frame_out
  pointwise [k0_pay1]

/-- The kernel's result, entry by entry. -/
theorem kernel_apply (r : Fin 8192) (d : Fin 1024) :
    ((dats m 0 c).arrAt 2 cfg0.N : FVec Ideal S8192x1024 .f32) (ix2 r d)
      = dot4096 (fun r k => argX m c (ix2 r k)) (fun k (d : Fin 1024) => argW m c (ix2 k ⟨2048 + d.val, by omega⟩)) r d := by
  let t : Fin cfg0.N := ⟨r.val / 1024, by have := r.isLt; change _ < 8; omega⟩
  have hr : 1024 * t.val + (inBlock r.val).val = r.val := block_add _ _ rfl
  have hd : (inBlock d.val).val = d.val := Nat.mod_eq_of_lt d.isLt
  have h := idx2 t
  refine Eq.trans ?_ ((congrFun (Value.blocks2 m c t (flush2 t)) (ix2 (inBlock r.val) (inBlock d.val))).trans ?_)
  · refine congrArg ((dats m 0 c).arrAt 2 cfg0.N : FVec Ideal S8192x1024 .f32) ?_
    blk_ext [h, hr, hd]
  · rw [Value.flushed2]
    refine (out_apply m c t _ _).trans ?_
    refine Finset.sum_congr rfl fun k _ => ?_
    rw [xBlock_apply m c t _ k (by omega), wBlock_apply m c t k _]
    simp only [hr, hd, Nat.mod_eq_of_lt d.isLt]

end Kernel

section Reference
open Cert.Reference4Ideal Cert.Reference4Ideal.Gen

variable (m : (ℓ : Loc nD τ sig) → Buf (Elt Ideal) ℓ) (c : Dev nD)

/-- The reference's normalised activations. -/
def refX : FVec Ideal S8192x4096 .bf16 := m ((c : Thread nD τ).loc main_arg0)
/-- The reference's weights. -/
def refW : FVec Ideal S4096x11312 .f32 := m ((c : Thread nD τ).loc main_arg1)

/-- The reference's result: the activations times those columns of the weights. -/
def refOut : FVec Ideal S8192x1024 .f32 :=
  Host.dotGeneral dot_S8192x4096_S4096x1024_S8192x1024_1_0_0_1_n_n none (extf .f32 (refX m c) bitsLt_bf16_f32) (extractStridedSlice S4096x1024 ![0, 2048] (refW m c) slices_S4096x11312_S4096x1024_0_2048)

/-- The reference's result, entry by entry. -/
theorem reference_apply (r : Fin 8192) (d : Fin 1024) :
    refOut m c (ix2 r d)
      = dot4096 (fun r k => refX m c (ix2 r k)) (fun k (d : Fin 1024) => refW m c (ix2 k ⟨2048 + d.val, by omega⟩)) r d := by
  unfold refOut dot4096
  pointwise

end Reference

/-- From arguments that agree, the kernel's result is the reference's. -/
theorem kernel_eq_reference (m : (ℓ : Loc Cert.Kernel4Ideal.nD Cert.Kernel4Ideal.τ Cert.Kernel4Ideal.sig) → Buf (Elt Ideal) ℓ)
    (c : Dev Cert.Kernel4Ideal.nD)
    (m' : (ℓ : Loc Cert.Reference4Ideal.nD Cert.Reference4Ideal.τ Cert.Reference4Ideal.sig) → Buf (Elt Ideal) ℓ)
    (h0 : argX m c = refX m' c) (h1 : argW m c = refW m' c) :
    refOut m' c = (Cert.Kernel4Ideal.Gen.dats m 0 c).arrAt 2 Cert.Kernel4Ideal.cfg0.N := by
  refine funext fun i => ?_
  obtain ⟨r, d, rfl⟩ : ∃ (r : Fin 8192) (d : Fin 1024), i = ix2 r d := ⟨i 0, i 1, by funext a; match a with | 0 => rfl | 1 => rfl⟩
  refine (reference_apply m' c r d).trans (Eq.trans ?_ (kernel_apply m c r d).symm)
  rw [h0, h1]

end Cert.Proof.CompressKV
end
-- ==== Proof.SelectKV.lean ====
module

public import proofs.«01_k».proof.Proof.Gen.Kernel5Ideal.Value
public import proofs.«01_k».proof.Proof.Gen.Reference5Ideal.Run
public import proofs.«01_k».proof.Proof.Rows

/-! The keys and values of the selected and the window branch: columns 3072 to 5119 of the input projection. -/

@[expose] public section

set_option maxRecDepth 16384

noncomputable section

namespace Cert.Proof.SelectKV

open Idealize.ShloMosaic Idealize.ShloMosaic.TcCoe Idealize.SL.Sem Idealize.ShloMosaic.Tactic
open Cert.Proof.Rows
open scoped BigOperators

section Kernel
open Cert.Kernel5Ideal Cert.Kernel5Ideal.Gen

variable (m : (ℓ : Loc nD τ sig) → Buf (Elt Ideal) ℓ) (c : Dev nD)

/-- The normalised activations the launch gave. -/
def argX : FVec Ideal S8192x4096 .bf16 := m ((c : Thread nD τ).loc main_arg0)
/-- The input projection's weights. -/
def argW : FVec Ideal S4096x11312 .f32 := m ((c : Thread nD τ).loc main_arg1)
/-- The block of activations a grid point finds. -/
def xBlock (t : Fin cfg0.N) : FVec Ideal S1024x4096 .bf16 := iblk m c 0 t
/-- The block of weights a grid point finds. -/
def wBlock (t : Fin cfg0.N) : FVec Ideal S4096x1024 .bf16 := X0_1 m c t

theorem idx0 : ∀ t : Fin grid0.N, win0_0.index t (0 : Fin 2) = t.val / 2 ∧ win0_0.index t (1 : Fin 2) = 0 := by decide +kernel
theorem idx1 : ∀ t : Fin grid0.N, win0_1.index t (0 : Fin 2) = 0 ∧ win0_1.index t (1 : Fin 2) = 3 + t.val % 2 := by decide +kernel
theorem idx2 : ∀ t : Fin grid0.N, win0_2.index t (0 : Fin 2) = t.val / 2 ∧ win0_2.index t (1 : Fin 2) = t.val % 2 := by decide +kernel
theorem flush2 : ∀ t : Fin cfg0.N, (cfg0.win 2).flush t = true := by decide +kernel

/-- The host's cast of the weights is those weights, over the reals. -/
theorem V_w : V m c main_v0 = argW m c := by
  unfold V argW
  after_results_simp
  rfl

/-- The block of activations at point `t`: the rows of row block `t / 2`. -/
theorem xBlock_apply (t : Fin cfg0.N) (r : Fin 1024) (k : Fin 4096) (hb : 1024 * (t.val / 2) + r.val < 8192) :
    xBlock m c t (ix2 r k) = argX m c (ix2 ⟨1024 * (t.val / 2) + r.val, hb⟩ k) := by
  have h := idx0 t
  unfold xBlock
  blk_simp [iblk, V_main_arg0]
  refine (congrFun (V_main_arg0 m c) _).trans (congrArg (argX m c) ?_)
  blk_ext [h]

/-- The block of weights at point `t`: columns from 3072 on, in blocks of 1024, block `t % 2`. -/
theorem wBlock_apply (t : Fin cfg0.N) (k : Fin 4096) (d : Fin 1024) :
    wBlock m c t (ix2 k d) = argW m c (ix2 k ⟨3072 + (1024 * (t.val % 2) + d.val), by omega⟩) := by
  have h := idx1 t
  unfold wBlock X0_1 Pipeline.Window.fill
  rw [dif_pos (moved0_1 t _)]
  blk_simp [iblk]
  refine (congrFun (V_w m c) _).trans (congrArg (argW m c) ?_)
  blk_ext [h]

/-- What the body leaves in the result's buffer at a point, entry by entry, from its two blocks. -/
theorem out_apply (t : Fin cfg0.N) (r d : Fin 1024) :
    (outsAt0 m c t : FVec Ideal S1024x1024 .bf16) (ix2 r d) = ∑ k : Fin 4096, xBlock m c t (ix2 r k) * wBlock m c t (ix2 k d) := by
  unfold outsAt0 xBlock wBlock
  frame_out
  pointwise [k0_pay1]

/-- The kernel's result, entry by entry. -/
theorem kernel_apply (r : Fin 8192) (d : Fin 2048) :
    ((dats m 0 c).arrAt 2 cfg0.N : FVec Ideal S8192x2048 .bf16) (ix2 r d)
      = dot4096 (fun r k => argX m c (ix2 r k)) (fun k (d : Fin 2048) => argW m c (ix2 k ⟨3072 + d.val, by omega⟩)) r d := by
  let t : Fin cfg0.N := ⟨2 * (r.val / 1024) + d.val / 1024, by have := r.isLt; have := d.isLt; change _ < 16; omega⟩
  have hr : 1024 * (t.val / 2) + (inBlock r.val).val = r.val := block_add _ _ (by have := d.isLt; change (2 * (r.val / 1024) + d.val / 1024) / 2 = _; omega)
  have hd : 1024 * (t.val % 2) + (inBlock d.val).val = d.val := block_add _ _ (by have := d.isLt; change (2 * (r.val / 1024) + d.val / 1024) % 2 = _; omega)
  have h := idx2 t
  refine Eq.trans ?_ ((congrFun (Value.blocks2 m c t (flush2 t)) (ix2 (inBlock r.val) (inBlock d.val))).trans ?_)
  · refine congrArg ((dats m 0 c).arrAt 2 cfg0.N : FVec Ideal S8192x2048 .bf16) ?_
    blk_ext [h, hr, hd]
  · rw [Value.flushed2]
    refine (out_apply m c t _ _).trans ?_
    refine Finset.sum_congr rfl fun k _ => ?_
    rw [xBlock_apply m c t _ k (by omega), wBlock_apply m c t k _]
    simp only [hr, hd]

end Kernel

section Reference
open Cert.Reference5Ideal Cert.Reference5Ideal.Gen

variable (m : (ℓ : Loc nD τ sig) → Buf (Elt Ideal) ℓ) (c : Dev nD)

/-- The reference's normalised activations. -/
def refX : FVec Ideal S8192x4096 .bf16 := m ((c : Thread nD τ).loc main_arg0)
/-- The reference's weights. -/
def refW : FVec Ideal S4096x11312 .f32 := m ((c : Thread nD τ).loc main_arg1)

/-- The reference's result: the activations times those columns of the weights. -/
def refOut : FVec Ideal S8192x2048 .bf16 :=
  truncf .bf16 (Host.dotGeneral dot_S8192x4096_S4096x2048_S8192x2048_1_0_0_1_n_n none (extf .f32 (refX m c) bitsLt_bf16_f32) (extractStridedSlice S4096x2048 ![0, 3072] (refW m c) slices_S4096x11312_S4096x2048_0_3072)) bitsLt_bf16_f32

/-- The reference's result, entry by entry. -/
theorem reference_apply (r : Fin 8192) (d : Fin 2048) :
    refOut m c (ix2 r d)
      = dot4096 (fun r k => refX m c (ix2 r k)) (fun k (d : Fin 2048) => refW m c (ix2 k ⟨3072 + d.val, by omega⟩)) r d := by
  unfold refOut dot4096
  pointwise

end Reference

/-- From arguments that agree, the kernel's result is the reference's. -/
theorem kernel_eq_reference (m : (ℓ : Loc Cert.Kernel5Ideal.nD Cert.Kernel5Ideal.τ Cert.Kernel5Ideal.sig) → Buf (Elt Ideal) ℓ)
    (c : Dev Cert.Kernel5Ideal.nD)
    (m' : (ℓ : Loc Cert.Reference5Ideal.nD Cert.Reference5Ideal.τ Cert.Reference5Ideal.sig) → Buf (Elt Ideal) ℓ)
    (h0 : argX m c = refX m' c) (h1 : argW m c = refW m' c) :
    refOut m' c = (Cert.Kernel5Ideal.Gen.dats m 0 c).arrAt 2 Cert.Kernel5Ideal.cfg0.N := by
  refine funext fun i => ?_
  obtain ⟨r, d, rfl⟩ : ∃ (r : Fin 8192) (d : Fin 2048), i = ix2 r d := ⟨i 0, i 1, by funext a; match a with | 0 => rfl | 1 => rfl⟩
  refine (reference_apply m' c r d).trans (Eq.trans ?_ (kernel_apply m c r d).symm)
  rw [h0, h1]

end Cert.Proof.SelectKV
end
-- ==== Proof.OutProj.lean ====
module

public import proofs.«01_k».proof.Proof.Gen.Kernel6Ideal.Value
public import proofs.«01_k».proof.Proof.Gen.Reference6Ideal.Run
public import Idealize.ShloMosaic.Lib.Pointwise
public import Idealize.ShloMosaic.Lib.ValueIdx
public import Idealize.ShloMosaic.Lib.Pipeline.ValueKit
public import Idealize.ShloMosaic.Lib.WritesUnit
public import Idealize.ShloMosaic.Lib.WholeRead
public import Idealize.ShloMosaic.Lib.VecWindow

/-! The output projection: the two tiled half products of the kernel are the one product of the concatenated rows. -/

@[expose] public section

set_option maxRecDepth 16384

noncomputable section

namespace Cert.Proof.OutProj

open Idealize.ShloMosaic Idealize.ShloMosaic.TcCoe Idealize.SL.Sem Idealize.ShloMosaic.Tactic
open scoped BigOperators

/-- One entry of the output projection: the row of the attention half against the upper weights plus the row of the
    convolution half against the lower ones. -/
def proj (a b : Fin 8192 → Fin 2048 → EReal) (w : Fin 4096 → Fin 4096 → EReal) (r : Fin 8192) (d : Fin 4096) : EReal :=
  (∑ k : Fin 2048, a r k * w ⟨k.val, by omega⟩ d) + ∑ k : Fin 2048, b r k * w ⟨2048 + k.val, by omega⟩ d

section Kernel
open Cert.Kernel6Ideal Cert.Kernel6Ideal.Gen

variable (m : (ℓ : Loc nD τ sig) → Buf (Elt Ideal) ℓ) (c : Dev nD)

/-- The attention half the launch gave. -/
def argA : FVec Ideal S8192x2048 .bf16 := m ((c : Thread nD τ).loc main_arg0)
/-- The convolution half the launch gave. -/
def argB : FVec Ideal S8192x2048 .bf16 := m ((c : Thread nD τ).loc main_arg1)
/-- The projection's weights. -/
def argW : FVec Ideal S4096x4096 .f32 := m ((c : Thread nD τ).loc main_arg2)

theorem idx0 : ∀ t : Fin grid0.N, win0_0.index t (0 : Fin 2) = t.val / 4 ∧ win0_0.index t (1 : Fin 2) = 0 := by decide +kernel
theorem idx1 : ∀ t : Fin grid0.N, win0_1.index t (0 : Fin 2) = t.val / 4 ∧ win0_1.index t (1 : Fin 2) = 0 := by decide +kernel
theorem idx2 : ∀ t : Fin grid0.N, win0_2.index t (0 : Fin 2) = 0 ∧ win0_2.index t (1 : Fin 2) = t.val % 4 := by decide +kernel
theorem idx3 : ∀ t : Fin grid0.N, win0_3.index t (0 : Fin 2) = t.val / 4 ∧ win0_3.index t (1 : Fin 2) = t.val % 4 := by decide +kernel
theorem flush3 : ∀ t : Fin cfg0.N, (cfg0.win 3).flush t = true := by decide +kernel

/-- The host's cast of the weights is those weights, over the reals. -/
theorem V_w : V m c main_v0 = argW m c := by
  unfold V argW
  after_results_simp
  rfl

/-- Window 0 at point `t`: the rows of row block `t / 4` of the attention half. -/
theorem blk0 (t : Fin cfg0.N) (r : Fin 1024) (k : Fin 2048) (hb : 1024 * (t.val / 4) + r.val < 8192) :
    (iblk m c 0 t : FVec Ideal S1024x2048 .bf16) (ix2 r k) = argA m c (ix2 ⟨1024 * (t.val / 4) + r.val, hb⟩ k) := by
  have h := idx0 t
  blk_simp [iblk, V_main_arg0]
  refine (congrFun (V_main_arg0 m c) _).trans (congrArg (argA m c) ?_)
  blk_ext [h]

/-- Window 1 at point `t`: the same rows of the convolution half. -/
theorem blk1 (t : Fin cfg0.N) (r : Fin 1024) (k : Fin 2048) (hb : 1024 * (t.val / 4) + r.val < 8192) :
    (iblk m c 1 t : FVec Ideal S1024x2048 .bf16) (ix2 r k) = argB m c (ix2 ⟨1024 * (t.val / 4) + r.val, hb⟩ k) := by
  have h := idx1 t
  blk_simp [iblk, V_main_arg1]
  refine (congrFun (V_main_arg1 m c) _).trans (congrArg (argB m c) ?_)
  blk_ext [h]

/-- Window 2 at point `t`: column block `t % 4` of the weights. -/
theorem blk2 (t : Fin cfg0.N) (k : Fin 4096) (d : Fin 1024) (hb : 1024 * (t.val % 4) + d.val < 4096) :
    (iblk m c 2 t : FVec Ideal S4096x1024 .bf16) (ix2 k d) = argW m c (ix2 k ⟨1024 * (t.val % 4) + d.val, hb⟩) := by
  have h := idx2 t
  blk_simp [iblk]
  refine (congrFun (V_w m c) _).trans (congrArg (argW m c) ?_)
  blk_ext [h]

/-- What the body writes at a point, entry by entry, from its three blocks. -/
theorem out_apply (x0 x1 : FVec Ideal S1024x2048 .bf16) (x2 : FVec Ideal S4096x1024 .bf16) (r d : Fin 1024) :
    (out0_3 (F := Ideal) x0 x1 x2 : FVec Ideal S1024x1024 .f32) (ix2 r d)
      = (∑ k : Fin 2048, x0 (ix2 r k) * x2 (ix2 ⟨k.val, by omega⟩ d))
        + ∑ k : Fin 2048, x1 (ix2 r k) * x2 (ix2 ⟨2048 + k.val, by omega⟩ d) := by
  unfold out0_3
  frame_out
  pointwise [k0_pay1]

/-- The kernel's result, entry by entry. -/
theorem kernel_apply (r : Fin 8192) (d : Fin 4096) :
    ((dats m 0 c).arrAt 3 cfg0.N : FVec Ideal S8192x4096 .f32) (ix2 r d)
      = proj (fun r k => argA m c (ix2 r k)) (fun r k => argB m c (ix2 r k)) (fun k d => argW m c (ix2 k d)) r d := by
  let t : Fin cfg0.N := ⟨4 * (r.val / 1024) + d.val / 1024, by have := r.isLt; have := d.isLt; change _ < 32; omega⟩
  have ht0 : t.val / 4 = r.val / 1024 := by have := d.isLt; change (4 * (r.val / 1024) + d.val / 1024) / 4 = _; omega
  have ht1 : t.val % 4 = d.val / 1024 := by have := d.isLt; change (4 * (r.val / 1024) + d.val / 1024) % 4 = _; omega
  have hr : 1024 * (t.val / 4) + r.val % 1024 = r.val := by rw [ht0]; omega
  have hd : 1024 * (t.val % 4) + d.val % 1024 = d.val := by rw [ht1]; omega
  have key := congrFun (Value.blocks3 m c t (flush3 t)) (ix2 (⟨r.val % 1024, Nat.mod_lt _ (by norm_num)⟩ : Fin 1024) (⟨d.val % 1024, Nat.mod_lt _ (by norm_num)⟩ : Fin 1024))
  have h := idx3 t
  refine Eq.trans ?_ (key.trans ?_)
  · refine congrArg ((dats m 0 c).arrAt 3 cfg0.N : FVec Ideal S8192x4096 .f32) ?_
    blk_ext [h, hr, hd]
  · rw [Value.flushed3]
    refine (out_apply _ _ _ _ _).trans ?_
    unfold proj
    congr 1
    · refine Finset.sum_congr rfl fun k _ => ?_
      rw [blk0 m c t _ k (by omega), blk2 m c t _ _ (by show _ + d.val % 1024 < _; omega)]
      simp only [hr, hd]
    · refine Finset.sum_congr rfl fun k _ => ?_
      rw [blk1 m c t _ k (by omega), blk2 m c t _ _ (by show _ + d.val % 1024 < _; omega)]
      simp only [hr, hd]

end Kernel

section Reference
open Cert.Reference6Ideal Cert.Reference6Ideal.Gen

variable (m : (ℓ : Loc nD τ sig) → Buf (Elt Ideal) ℓ) (c : Dev nD)

/-- The reference's attention half. -/
def refA : FVec Ideal S8192x2048 .bf16 := m ((c : Thread nD τ).loc main_arg0)
/-- The reference's convolution half. -/
def refB : FVec Ideal S8192x2048 .bf16 := m ((c : Thread nD τ).loc main_arg1)
/-- The reference's weights. -/
def refW : FVec Ideal S4096x4096 .f32 := m ((c : Thread nD τ).loc main_arg2)

/-- The reference's result: the rows side by side, times the weights. -/
def refOut : FVec Ideal S8192x4096 .f32 :=
  Host.dotGeneral dot_S8192x4096_S4096x4096_S8192x4096_1_0_0_1_n_n none
    (extf .f32 (concatenate S8192x4096 1 [⟨S8192x2048, refA m c⟩, ⟨S8192x2048, refB m c⟩] concatenates_S8192x2048_S8192x2048_S8192x4096_d1) bitsLt_bf16_f32)
    (refW m c)

/-- The two rows side by side, read at a column. -/
theorem concat_apply (r : Fin 8192) (k : Fin 4096) :
    (concatenate S8192x4096 1 [⟨S8192x2048, refA m c⟩, ⟨S8192x2048, refB m c⟩] concatenates_S8192x2048_S8192x2048_S8192x4096_d1
        : FVec Ideal S8192x4096 .bf16) (ix2 r k)
      = if h : k.val < 2048 then refA m c (ix2 r ⟨k.val, h⟩) else refB m c (ix2 r ⟨k.val - 2048, by omega⟩) := by
  by_cases h : k.val < 2048
  · rw [dif_pos h]
    pointwise
    exact dif_pos h
  · rw [dif_neg h]
    pointwise
    exact dif_neg h

/-- The reference's result, entry by entry. -/
theorem reference_apply (r : Fin 8192) (d : Fin 4096) :
    refOut m c (ix2 r d)
      = proj (fun r k => refA m c (ix2 r k)) (fun r k => refB m c (ix2 r k)) (fun k d => refW m c (ix2 k d)) r d := by
  have h : refOut m c (ix2 r d) = ∑ k : Fin 4096, (concatenate S8192x4096 1 [⟨S8192x2048, refA m c⟩, ⟨S8192x2048, refB m c⟩] concatenates_S8192x2048_S8192x2048_S8192x4096_d1
        : FVec Ideal S8192x4096 .bf16) (ix2 r k) * refW m c (ix2 k d) := by
    unfold refOut
    pointwise
  rw [h, Fin.sum_univ_add (a := 2048) (b := 2048)]
  unfold proj
  congr 1 <;> refine Finset.sum_congr rfl fun k _ => ?_ <;> rw [concat_apply]
  · rw [dif_pos (by show k.val < 2048; omega)]; rfl
  · rw [dif_neg (by show ¬ (2048 + k.val < 2048); omega)]
    have hk : (⟨(Fin.natAdd 2048 k).val - 2048, by show 2048 + k.val - 2048 < 2048; omega⟩ : Fin 2048) = k :=
      Fin.ext (by show 2048 + k.val - 2048 = k.val; omega)
    exact congrArg (fun j => refB m c (ix2 r j) * refW m c (ix2 (Fin.natAdd 2048 k) d)) hk

end Reference

/-- From arguments that agree, the kernel's result is the reference's. -/
theorem kernel_eq_reference (m : (ℓ : Loc Cert.Kernel6Ideal.nD Cert.Kernel6Ideal.τ Cert.Kernel6Ideal.sig) → Buf (Elt Ideal) ℓ)
    (c : Dev Cert.Kernel6Ideal.nD)
    (m' : (ℓ : Loc Cert.Reference6Ideal.nD Cert.Reference6Ideal.τ Cert.Reference6Ideal.sig) → Buf (Elt Ideal) ℓ)
    (h0 : argA m c = refA m' c) (h1 : argB m c = refB m' c) (h2 : argW m c = refW m' c) :
    refOut m' c = (Cert.Kernel6Ideal.Gen.dats m 0 c).arrAt 3 Cert.Kernel6Ideal.cfg0.N := by
  refine funext fun i => ?_
  obtain ⟨r, d, rfl⟩ : ∃ (r : Fin 8192) (d : Fin 4096), i = ix2 r d := ⟨i 0, i 1, by funext a; match a with | 0 => rfl | 1 => rfl⟩
  refine (reference_apply m' c r d).trans (Eq.trans ?_ (kernel_apply m c r d).symm)
  rw [h0, h1, h2]

end Cert.Proof.OutProj
end
-- ==== Proof.MemoryPure.lean ====
module

public import proofs.«01_k».proof.Proof.Rows

/-! The memory cross-attention of one row, as the kernel and as the reference compute it, and that the two agree where the scores
are real numbers: a scale may be applied to the query or to the score, and dividing by a sum of exponentials is multiplying by
its reciprocal when the sum is not zero. -/

@[expose] public section

noncomputable section

namespace Cert.Proof.Memory

open Idealize.ShloMosaic
open Cert.Proof.Rows
open scoped BigOperators

/-- The scale of the scores. -/
def scale : EReal := Ideal.ofBits .f32 0x3DB504F3#32

/-- The greatest of 256 scores. -/
def top (s : Fin 256 → EReal) : EReal := Finset.univ.fold max (Ideal.ofBits .f32 0xFF800000#32) s

/-- The exponentials' sum. -/
def total (s : Fin 256 → EReal) : EReal := ∑ i, Ideal.exp (s i - top s)

/-- A weight as the kernel computes it: the exponential times the reciprocal of the sum. -/
def weight (s : Fin 256 → EReal) (j : Fin 256) : EReal := Ideal.exp (s j - top s) * Ideal.div 1 (total s)

/-- A weight as the reference computes it: the exponential over the sum. -/
def softmax (s : Fin 256 → EReal) (j : Fin 256) : EReal := Ideal.div (Ideal.exp (s j - top s)) (total s)

/-- Column `e` of head `h`. -/
abbrev col (h : Fin 4) (e : Fin 128) : Fin 512 := ⟨128 * h.val + e.val, by omega⟩

/-- The head of a column. -/
abbrev headOf (n : Fin 512) : Fin 4 := ⟨n.val / 128, by omega⟩

/-- A head's score of a query row against memory row `j`. -/
def score (q : Fin 512 → EReal) (km : Fin 256 → Fin 512 → EReal) (h : Fin 4) (j : Fin 256) : EReal := ∑ e, q (col h e) * km j (col h e)

/-- A row after the first residual: the row plus the normalised result of the sublayer before. -/
def mid (x y g : Fin 4096 → EReal) (d : Fin 4096) : EReal := x d + rms y (g d) d

/-- A query entry, not scaled: the normalised row against a column of the weights. -/
def query (z gpre : Fin 4096 → EReal) (wq : Fin 4096 → Fin 512 → EReal) (n : Fin 512) : EReal := ∑ k, rms z (gpre k) k * wq k n

/-- The result's row from the values' mixture `o`: the row plus the normalised projection of `o`. -/
def finish (z : Fin 4096 → EReal) (o : Fin 512 → EReal) (wo : Fin 512 → Fin 4096 → EReal) (gpost : Fin 4096 → EReal) (d : Fin 4096) : EReal :=
  z d + rms (fun d => ∑ n, o n * wo n d) (gpost d) d

/-- The kernel's mixture of the values, from its scaled query row. -/
def mixKernel (q : Fin 512 → EReal) (km vm : Fin 256 → Fin 512 → EReal) (n : Fin 512) : EReal := ∑ j, weight (score q km (headOf n)) j * vm j n

/-- The reference's mixture of the values: the scores are scaled after the product. -/
def mixReference (q : Fin 512 → EReal) (km vm : Fin 256 → Fin 512 → EReal) (n : Fin 512) : EReal :=
  ∑ j, softmax (fun j => score q km (headOf n) j * scale) j * vm j n

/-! ## Real numbers -/

/-- Neither infinity. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {ι : Type*} (s : Finset ι) (f : ι → EReal) (h : ∀ i, IsReal (f i)) : IsReal (∑ i ∈ s, f i) :=
  Finset.sum_induction f IsReal (fun _ _ => IsReal.add) ⟨0, by simp⟩ fun i _ => h i

/-- The sum of reals, as an extended real. -/
theorem coe_sum {ι : Type*} {s : Finset ι} (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem ofBits_4096 : Ideal.ofBits .f32 0x45800000#32 = ((4096 : ℝ) : EReal) := by
  simp [Ideal.ofBits, Ideal.ieee, -EReal.coe_mul]; norm_num

/-- The small constant under the root is a positive real. -/
theorem ofBits_eps : ∃ e : ℝ, 0 < e ∧ Ideal.ofBits .f32 0x358637BD#32 = (e : EReal) := by
  refine ⟨_, ?_, by simp only [Ideal.ofBits, Ideal.ieee]; simp [-EReal.coe_mul]; rfl⟩
  norm_num

/-- The scale is a positive real. -/
theorem scale_eq : ∃ e : ℝ, 0 < e ∧ scale = (e : EReal) := by
  refine ⟨_, ?_, by simp only [scale, Ideal.ofBits, Ideal.ieee]; simp [-EReal.coe_mul]; rfl⟩
  norm_num

/-- The reciprocal root mean square of a sum of squares of reals is real. -/
theorem rstd_isReal (q : ℝ) (hq : 0 ≤ q) : IsReal (rstd (q : EReal)) := by
  obtain ⟨e, he, h⟩ := ofBits_eps
  have hp : 0 < q * (4096 : ℝ)⁻¹ + e := by positivity
  have hd : Ideal.div (q : EReal) ((4096 : ℝ) : EReal) + (e : EReal) = ((q * (4096 : ℝ)⁻¹ + e : ℝ) : EReal) := by
    unfold Ideal.div
    rw [if_neg (by norm_num), EReal.coe_add, EReal.coe_mul, EReal.coe_inv]
  unfold rstd
  rw [ofBits_4096, h, hd]
  show IsReal (if q * (4096 : ℝ)⁻¹ + e < 0 then ⊥ else if q * (4096 : ℝ)⁻¹ + e = 0 then ⊤ else _)
  rw [if_neg (not_lt.mpr hp.le), if_neg hp.ne']
  exact ⟨_, rfl⟩

/-- A real row normalised with a real gain is real. -/
theorem rms_isReal (y : Fin 4096 → EReal) (g : EReal) (d : Fin 4096) (hy : ∀ k, IsReal (y k)) (hg : IsReal g) : IsReal (rms y g d) := by
  choose a ha using hy
  have hs : ∑ k, y k * y k = ((∑ k, a k * a k : ℝ) : EReal) := by
    refine Eq.trans (Finset.sum_congr rfl fun k _ => by rw [ha, ← EReal.coe_mul]) (coe_sum _).symm
  have hd : IsReal (y d) := ⟨a d, ha d⟩
  refine (hd.mul ?_).mul hg
  rw [hs]
  exact rstd_isReal _ (Finset.sum_nonneg fun k _ => mul_self_nonneg _)

/-! ## The weights -/

/-- A positive real factor goes into a sum. -/
theorem sum_mul_scale {ι : Type*} (s : Finset ι) (f : ι → EReal) : (∑ i ∈ s, f i) * scale = ∑ i ∈ s, f i * scale := by
  obtain ⟨e, he, h⟩ := scale_eq
  rw [h]
  classical
  induction s using Finset.induction_on with
  | empty => simp
  | insert i s hi ih =>
    rw [Finset.sum_insert hi, Finset.sum_insert hi, EReal.right_distrib_of_nonneg_of_ne_top (EReal.coe_nonneg.mpr he.le) (EReal.coe_ne_top e), ih]

/-- Scaling the query is scaling the score. -/
theorem score_scale (q : Fin 512 → EReal) (km : Fin 256 → Fin 512 → EReal) (h : Fin 4) :
    score (fun n => q n * scale) km h = fun j => score q km h j * scale := by
  funext j
  unfold score
  rw [sum_mul_scale]
  exact Finset.sum_congr rfl fun e _ => by rw [mul_assoc, mul_comm scale, ← mul_assoc]

/-- Exponentials are not negative. -/
theorem exp_nonneg (x : EReal) : 0 ≤ Ideal.exp x := by
  induction x with
  | bot => exact le_rfl
  | top => exact le_top
  | coe r => exact EReal.coe_nonneg.mpr (Real.exp_pos r).le

/-- The greatest score is one of them, when they are real. -/
theorem top_mem (s : Fin 256 → EReal) (hs : ∀ j, IsReal (s j)) : ∃ j, top s = s j := by
  have hb : Ideal.ofBits .f32 0xFF800000#32 = ⊥ := by simp [Ideal.ofBits, Ideal.ieee]
  have hsup : top s = Finset.univ.sup s := by unfold top; rw [hb]; rfl
  obtain ⟨j, -, hj⟩ := Finset.exists_mem_eq_sup (Finset.univ : Finset (Fin 256)) ⟨0, Finset.mem_univ 0⟩ s
  exact ⟨j, hsup.trans hj⟩

/-- The sum of the exponentials of real scores is not zero: the greatest score's is one. -/
theorem total_ne_zero (s : Fin 256 → EReal) (hs : ∀ j, IsReal (s j)) : total s ≠ 0 := by
  obtain ⟨j, hj⟩ := top_mem s hs
  obtain ⟨a, ha⟩ := hs j
  have h1 : Ideal.exp (s j - top s) = 1 := by
    rw [hj, ha, ← EReal.coe_sub, sub_self]
    show ((Real.exp 0 : ℝ) : EReal) = 1
    rw [Real.exp_zero, EReal.coe_one]
  have h2 : (1 : EReal) ≤ total s :=
    h1.symm.le.trans (Finset.single_le_sum (f := fun i => Ideal.exp (s i - top s)) (fun i _ => exp_nonneg _) (Finset.mem_univ j))
  exact ne_of_gt (lt_of_lt_of_le zero_lt_one h2)

/-- The kernel's weights of real scores are the reference's. -/
theorem weight_eq_softmax (s : Fin 256 → EReal) (hs : ∀ j, IsReal (s j)) (j : Fin 256) : weight s j = softmax s j := by
  have h := total_ne_zero s hs
  unfold weight softmax Ideal.div
  rw [if_neg h, if_neg h, one_mul]

/-- With real arguments the mixtures agree. -/
theorem mix_eq (x y g gpre : Fin 4096 → EReal) (wq : Fin 4096 → Fin 512 → EReal) (km vm : Fin 256 → Fin 512 → EReal)
    (hx : ∀ k, IsReal (x k)) (hy : ∀ k, IsReal (y k)) (hg : ∀ k, IsReal (g k)) (hp : ∀ k, IsReal (gpre k))
    (hw : ∀ k n, IsReal (wq k n)) (hk : ∀ j n, IsReal (km j n)) (n : Fin 512) :
    mixKernel (fun n => query (mid x y g) gpre wq n * scale) km vm n = mixReference (query (mid x y g) gpre wq) km vm n := by
  have hmid : ∀ k, IsReal (mid x y g k) := fun k => (hx k).add (rms_isReal y (g k) k hy (hg k))
  have hq : ∀ n, IsReal (query (mid x y g) gpre wq n) := fun n =>
    IsReal.sum _ _ fun k => (rms_isReal _ _ _ hmid (hp k)).mul (hw k n)
  obtain ⟨e, -, he⟩ := scale_eq
  have hs : ∀ j, IsReal (score (query (mid x y g) gpre wq) km (headOf n) j * scale) := fun j =>
    (IsReal.sum _ _ fun e => (hq _).mul (hk j _)).mul ⟨e, he⟩
  unfold mixKernel mixReference
  refine Finset.sum_congr rfl fun j _ => ?_
  rw [score_scale, weight_eq_softmax _ hs]

end Cert.Proof.Memory
end
-- ==== Proof.Memory.lean ====
module

public import proofs.«01_k».proof.Pre_finite_scores
public import proofs.«01_k».proof.Proof.Gen.Kernel7Ideal.Value
public import proofs.«01_k».proof.Proof.Gen.Reference7Ideal.Run
public import proofs.«01_k».proof.Proof.MemoryPure

/-! The memory cross-attention: every entry of the kernel's result, block by block of 256 rows, and of the reference's. -/

@[expose] public section

set_option maxRecDepth 16384

noncomputable section

namespace Cert.Proof.Memory

open Idealize.ShloMosaic Idealize.ShloMosaic.TcCoe Idealize.SL.Sem Idealize.ShloMosaic.Tactic
open Cert.Proof.Rows
open scoped BigOperators

section Kernel
open Cert.Kernel7Ideal Cert.Kernel7Ideal.Gen

variable (m : (ℓ : Loc nD τ sig) → Buf (Elt Ideal) ℓ) (c : Dev nD)

/-- The residual stream the launch gave. -/
def argX : FVec Ideal S8192x4096 .f32 := m ((c : Thread nD τ).loc main_arg0)
/-- The result of the sublayer before. -/
def argY : FVec Ideal S8192x4096 .f32 := m ((c : Thread nD τ).loc main_arg1)
/-- That result's gain. -/
def argG : FVec Ideal S4096 .f32 := m ((c : Thread nD τ).loc main_arg2)
/-- The gain before the query projection. -/
def argPre : FVec Ideal S4096 .f32 := m ((c : Thread nD τ).loc main_arg3)
/-- The gain after the output projection. -/
def argPost : FVec Ideal S4096 .f32 := m ((c : Thread nD τ).loc main_arg4)
/-- The query's weights. -/
def argQ : FVec Ideal S4096x512 .f32 := m ((c : Thread nD τ).loc main_arg5)
/-- The memory's keys and values side by side. -/
def argKV : FVec Ideal S256x1024 .bf16 := m ((c : Thread nD τ).loc main_arg6)
/-- The output projection's weights. -/
def argO : FVec Ideal S512x4096 .f32 := m ((c : Thread nD τ).loc main_arg7)

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = 0 ∧ win0_6.index t (1 : Fin 2) = 0 := by decide +kernel
theorem idx7 : ∀ t : Fin grid0.N, win0_7.index t (0 : Fin 2) = 0 ∧ win0_7.index t (1 : Fin 2) = 1 := by decide +kernel
theorem idx8 : ∀ t : Fin grid0.N, win0_8.index t (0 : Fin 2) = 0 ∧ win0_8.index t (1 : Fin 2) = 0 := by decide +kernel
theorem idx9 : ∀ t : Fin grid0.N, win0_9.index t (0 : Fin 2) = t.val ∧ win0_9.index t (1 : Fin 2) = 0 := by decide +kernel
theorem flush9 : ∀ t : Fin cfg0.N, (cfg0.win 9).flush t = true := by decide +kernel

/-! ## What the body computes from its blocks -/

theorem mid_apply (x y : FVec Ideal S256x4096 .f32) (g : FVec Ideal S1x4096 .f32) (r : Fin 256) (d : Fin 4096) :
    (k0_pay2 (F := Ideal) x y g) (ix2 r d) = mid (fun k => x (ix2 r k)) (fun k => y (ix2 r k)) (fun k => g (ix2 0 k)) d := by
  pointwise [k0_pay2]
  rfl

theorem query_apply (x y : FVec Ideal S256x4096 .f32) (g gp : FVec Ideal S1x4096 .f32) (w : FVec Ideal S4096x512 .bf16) (r : Fin 256) (n : Fin 512) :
    (k0_pay3 (F := Ideal) x y g gp w) (ix2 r n)
      = query (fun k => k0_pay2 (F := Ideal) x y g (ix2 r k)) (fun k => gp (ix2 0 k)) (fun k n => w (ix2 k n)) n * scale := by
  pointwise [k0_pay3]
  rfl

/-- A head's mixture, read at columns named in another way, is the mixture at that head's column. -/
theorem mix_head (q : Fin 512 → EReal) (km vm : Fin 256 → Fin 512 → EReal) (h : Fin 4) (n n' : Fin 512) (hn : headOf n = h) (hn' : n' = n)
    (cols : Fin 128 → Fin 512) (hc : ∀ e, cols e = col h e) :
    ∑ j, Ideal.exp (∑ e, q (cols e) * km j (cols e) - Finset.fold max (Ideal.ofBits .f32 0xFF800000#32) (fun j => ∑ e, q (cols e) * km j (cols e)) Finset.univ)
          * Ideal.div 1 (∑ i, Ideal.exp (∑ e, q (cols e) * km i (cols e)
              - Finset.fold max (Ideal.ofBits .f32 0xFF800000#32) (fun j => ∑ e, q (cols e) * km j (cols e)) Finset.univ)) * vm j n'
      = mixKernel q km vm n := by
  obtain rfl : cols = col h := funext hc
  subst hn hn'
  rfl

/-- The four heads' mixtures side by side, as the body puts them together from the query and the blocks of keys and values. -/
theorem mix_apply (x y : FVec Ideal S256x4096 .f32) (g gp : FVec Ideal S1x4096 .f32) (w : FVec Ideal S4096x512 .bf16)
    (km vm : FVec Ideal S256x512 .bf16) (wo : FVec Ideal S512x4096 .bf16) (r : Fin 256) (d : Fin 4096) :
    (k0_pay8 (F := Ideal) (k0_pay3 (F := Ideal) x y g gp w)
        (k0_pay5 (F := Ideal) (k0_pay4 (F := Ideal) x y g gp w) (View.ld km r0_3) (View.ld vm r0_3))
        (k0_pay6 (F := Ideal) (k0_pay3 (F := Ideal) x y g gp w) (View.ld km r0_4) (View.ld vm r0_4))
        (k0_pay7 (F := Ideal) (k0_pay3 (F := Ideal) x y g gp w) (View.ld km r0_5)) (View.ld vm r0_5) (View.ld km r0_6) (View.ld vm r0_6) wo) (ix2 r d)
      = ∑ n, mixKernel (fun n => k0_pay3 (F := Ideal) x y g gp w (ix2 r n)) (fun j n => km (ix2 j n)) (fun j n => vm (ix2 j n)) n * wo (ix2 n d) := by
  pointwise [k0_pay8, k0_pay7, k0_pay6, k0_pay5, k0_pay4]
  refine Finset.sum_congr rfl fun n _ => congrArg (· * wo (ix2 n d)) ?_
  have hn := n.isLt
  let qf : Fin 512 → EReal := fun n => k0_pay3 (F := Ideal) x y g gp w (ix2 r n)
  let kf : Fin 256 → Fin 512 → EReal := fun j n => km (ix2 j n)
  let vf : Fin 256 → Fin 512 → EReal := fun j n => vm (ix2 j n)
  by_cases h0 : n.val < 128
  · rw [dif_pos h0]
    have key := mix_head qf kf vf 0 n n (Fin.ext (by show n.val / 128 = 0; omega)) rfl (fun e => ⟨e.val, by omega⟩) (fun e => Fin.ext (by simp))
    exact key
  rw [dif_neg h0]
  by_cases h1 : n.val - 128 < 128
  · rw [dif_pos h1]
    have key := mix_head qf kf vf 1 n ⟨128 + (n.val - 128), by omega⟩ (Fin.ext (by show n.val / 128 = 1; omega))
      (Fin.ext (by show 128 + (n.val - 128) = n.val; omega)) (fun e => ⟨128 + e.val, by omega⟩) (fun e => Fin.ext (by simp))
    exact key
  rw [dif_neg h1]
  by_cases h2 : n.val - 128 - 128 < 128
  · rw [dif_pos h2]
    have key := mix_head qf kf vf 2 n ⟨256 + (n.val - 128 - 128), by omega⟩ (Fin.ext (by show n.val / 128 = 2; omega))
      (Fin.ext (by show 256 + (n.val - 128 - 128) = n.val; omega)) (fun e => ⟨256 + e.val, by omega⟩) (fun e => Fin.ext (by simp))
    exact key
  · rw [dif_neg h2]
    have key := mix_head qf kf vf 3 n ⟨384 + (n.val - 128 - 128 - 128), by omega⟩ (Fin.ext (by show n.val / 128 = 3; omega))
      (Fin.ext (by show 384 + (n.val - 128 - 128 - 128) = n.val; omega)) (fun e => ⟨384 + e.val, by omega⟩) (fun e => Fin.ext (by simp))
    exact key

/-- A result block, entry by entry, from the blocks the point finds. -/
theorem out_apply (x y : FVec Ideal S256x4096 .f32) (g gp gq : FVec Ideal S1x4096 .f32) (w : FVec Ideal S4096x512 .bf16)
    (km vm : FVec Ideal S256x512 .bf16) (wo : FVec Ideal S512x4096 .bf16) (r : Fin 256) (d : Fin 4096) :
    (out0_9 (F := Ideal) x y g gp gq w km vm wo : FVec Ideal S256x4096 .f32) (ix2 r d)
      = finish (mid (fun k => x (ix2 r k)) (fun k => y (ix2 r k)) (fun k => g (ix2 0 k)))
          (mixKernel (fun n => query (mid (fun k => x (ix2 r k)) (fun k => y (ix2 r k)) (fun k => g (ix2 0 k))) (fun k => gp (ix2 0 k)) (fun k n => w (ix2 k n)) n * scale)
            (fun j n => km (ix2 j n)) (fun j n => vm (ix2 j n)))
          (fun n d => wo (ix2 n d)) (fun k => gq (ix2 0 k)) d := by
  unfold_out out0_9
  frame_out
  pointwise [k0_pay1, k0_pay9, k0_pay10]
  simp only [mix_apply, query_apply, mid_apply]
  rfl

/-! ## The blocks a point finds -/

theorem V_q : V m c main_v0 = argQ m c := by
  unfold V argQ
  after_results_simp
  rfl

theorem V_o : V m c main_v1 = argO m c := by
  unfold V argO
  after_results_simp
  rfl

theorem V_g (k : Fin 4096) : (V m c main_v2 : FVec Ideal S1x4096 .f32) (ix2 0 k) = argG m c (ix1 k) := by
  unfold V argG
  after_results_simp
  pointwise

theorem V_pre (k : Fin 4096) : (V m c main_v3 : FVec Ideal S1x4096 .f32) (ix2 0 k) = argPre m c (ix1 k) := by
  unfold V argPre
  after_results_simp
  pointwise

theorem V_post (k : Fin 4096) : (V m c main_v4 : FVec Ideal S1x4096 .f32) (ix2 0 k) = argPost m c (ix1 k) := by
  unfold V argPost
  after_results_simp
  pointwise

theorem blk0 (t : Fin cfg0.N) (r : Fin 256) (k : Fin 4096) (hb : 256 * t.val + r.val < 8192) :
    (iblk m c 0 t : FVec Ideal S256x4096 .f32) (ix2 r k) = argX m c (ix2 ⟨256 * t.val + r.val, hb⟩ k) := by
  have h := idx0 t
  blk_simp [iblk, V_main_arg0]
  refine (congrFun (V_main_arg0 m c) _).trans (congrArg (argX m c) ?_)
  blk_ext [h]

theorem blk1 (t : Fin cfg0.N) (r : Fin 256) (k : Fin 4096) (hb : 256 * t.val + r.val < 8192) :
    (iblk m c 1 t : FVec Ideal S256x4096 .f32) (ix2 r k) = argY m c (ix2 ⟨256 * t.val + r.val, hb⟩ k) := by
  have h := idx1 t
  blk_simp [iblk, V_main_arg1]
  refine (congrFun (V_main_arg1 m c) _).trans (congrArg (argY m c) ?_)
  blk_ext [h]

theorem blk2 (t : Fin cfg0.N) (k : Fin 4096) : (iblk m c 2 t : FVec Ideal S1x4096 .f32) (ix2 0 k) = argG m c (ix1 k) := by
  have h := idx2 t
  blk_simp [iblk]
  refine Eq.trans (congrArg (V m c main_v2 : FVec Ideal S1x4096 .f32) ?_) (V_g m c k)
  blk_ext [h]

theorem blk3 (t : Fin cfg0.N) (k : Fin 4096) : (iblk m c 3 t : FVec Ideal S1x4096 .f32) (ix2 0 k) = argPre m c (ix1 k) := by
  have h := idx3 t
  blk_simp [iblk]
  refine Eq.trans (congrArg (V m c main_v3 : FVec Ideal S1x4096 .f32) ?_) (V_pre m c k)
  blk_ext [h]

theorem blk4 (t : Fin cfg0.N) (k : Fin 4096) : (iblk m c 4 t : FVec Ideal S1x4096 .f32) (ix2 0 k) = argPost m c (ix1 k) := by
  have h := idx4 t
  blk_simp [iblk]
  refine Eq.trans (congrArg (V m c main_v4 : FVec Ideal S1x4096 .f32) ?_) (V_post m c k)
  blk_ext [h]

theorem blk5 (t : Fin cfg0.N) (k : Fin 4096) (n : Fin 512) : (iblk m c 5 t : FVec Ideal S4096x512 .bf16) (ix2 k n) = argQ m c (ix2 k n) := by
  have h := idx5 t
  blk_simp [iblk]
  refine (congrFun (V_q m c) _).trans (congrArg (argQ m c) ?_)
  blk_ext [h]

/-- The keys: the first half of the columns. -/
theorem blk6 (t : Fin cfg0.N) (j : Fin 256) (n : Fin 512) :
    (iblk m c 6 t : FVec Ideal S256x512 .bf16) (ix2 j n) = argKV m c (ix2 j ⟨n.val, by omega⟩) := by
  have h := idx6 t
  blk_simp [iblk, V_main_arg6]
  refine (congrFun (V_main_arg6 m c) _).trans (congrArg (argKV m c) ?_)
  blk_ext [h]

/-- The values: the second half. -/
theorem blk7 (t : Fin cfg0.N) (j : Fin 256) (n : Fin 512) :
    (iblk m c 7 t : FVec Ideal S256x512 .bf16) (ix2 j n) = argKV m c (ix2 j ⟨512 + n.val, by omega⟩) := by
  have h := idx7 t
  blk_simp [iblk, V_main_arg6]
  refine (congrFun (V_main_arg6 m c) _).trans (congrArg (argKV m c) ?_)
  blk_ext [h]

theorem blk8 (t : Fin cfg0.N) (n : Fin 512) (d : Fin 4096) : (iblk m c 8 t : FVec Ideal S512x4096 .bf16) (ix2 n d) = argO m c (ix2 n d) := by
  have h := idx8 t
  blk_simp [iblk]
  refine (congrFun (V_o m c) _).trans (congrArg (argO m c) ?_)
  blk_ext [h]

/-- The kernel's row after the first residual. -/
def rowMid (r : Fin 8192) : Fin 4096 → EReal :=
  mid (fun k => argX m c (ix2 r k)) (fun k => argY m c (ix2 r k)) (fun k => argG m c (ix1 k))

/-- The kernel's query row, before the scale. -/
def rowQuery (r : Fin 8192) : Fin 512 → EReal := query (rowMid m c r) (fun k => argPre m c (ix1 k)) (fun k n => argQ m c (ix2 k n))

/-- The kernel's result, entry by entry. -/
theorem kernel_apply (r : Fin 8192) (d : Fin 4096) :
    ((dats m 0 c).arrAt 9 cfg0.N : FVec Ideal S8192x4096 .f32) (ix2 r d)
      = finish (rowMid m c r)
          (mixKernel (fun n => rowQuery m c r n * scale) (fun j n => argKV m c (ix2 j ⟨n.val, by omega⟩)) (fun j n => argKV m c (ix2 j ⟨512 + n.val, by omega⟩)))
          (fun n d => argO m c (ix2 n d)) (fun k => argPost m c (ix1 k)) d := by
  let t : Fin cfg0.N := ⟨r.val / 256, by have := r.isLt; change _ < 32; omega⟩
  have ht : t.val = r.val / 256 := rfl
  have hr : 256 * t.val + r.val % 256 = r.val := by rw [ht]; omega
  have key := congrFun (Value.blocks9 m c t (flush9 t)) (ix2 (⟨r.val % 256, Nat.mod_lt _ (by norm_num)⟩ : Fin 256) d)
  have h := idx9 t
  refine Eq.trans ?_ (key.trans ?_)
  · refine congrArg ((dats m 0 c).arrAt 9 cfg0.N : FVec Ideal S8192x4096 .f32) ?_
    blk_ext [h, hr]
  · rw [Value.flushed9]
    refine (out_apply _ _ _ _ _ _ _ _ _ _ _).trans ?_
    have hb : 256 * t.val + r.val % 256 < 8192 := by omega
    have e0 := fun k => blk0 m c t ⟨r.val % 256, Nat.mod_lt _ (by norm_num)⟩ k hb
    have e1 := fun k => blk1 m c t ⟨r.val % 256, Nat.mod_lt _ (by norm_num)⟩ k hb
    simp only [hr] at e0 e1
    simp only [e0, e1, blk2, blk3, blk4, blk5, blk6, blk7, blk8]
    rfl

end Kernel

section Reference
open Cert.Reference7Ideal Cert.Reference7Ideal.Gen

variable (m : (ℓ : Loc nD τ sig) → Buf (Elt Ideal) ℓ) (c : Dev nD)

/-- The reference's residual stream. -/
def refX : FVec Ideal S8192x4096 .f32 := m ((c : Thread nD τ).loc main_arg0)
/-- The reference's result of the sublayer before. -/
def refY : FVec Ideal S8192x4096 .f32 := m ((c : Thread nD τ).loc main_arg1)
/-- The reference's gain of that result. -/
def refG : FVec Ideal S4096 .f32 := m ((c : Thread nD τ).loc main_arg2)
/-- The reference's gain before the query projection. -/
def refPre : FVec Ideal S4096 .f32 := m ((c : Thread nD τ).loc main_arg3)
/-- The reference's gain after the output projection. -/
def refPost : FVec Ideal S4096 .f32 := m ((c : Thread nD τ).loc main_arg4)
/-- The reference's query weights. -/
def refQ : FVec Ideal S4096x512 .f32 := m ((c : Thread nD τ).loc main_arg5)
/-- The reference's keys and values. -/
def refKV : FVec Ideal S256x1024 .bf16 := m ((c : Thread nD τ).loc main_arg6)
/-- The reference's output weights. -/
def refO : FVec Ideal S512x4096 .f32 := m ((c : Thread nD τ).loc main_arg7)

/-- RMS normalisation of every row, as the reference's operations. -/
def refRms (x : FVec Ideal S8192x4096 .f32) (g : FVec Ideal S4096 .f32) : FVec Ideal S8192x4096 .f32 :=
  mulf (mulf x (broadcastInDim S8192x4096 ![0, 1] bcast_S8192x1_S8192x4096_0_1 (Host.rsqrt (addf
    (Host.divf (broadcastInDim S8192x1 ![0] bcast_S8192_S8192x1_0 (Host.reduceAdd (mulf x x) (constant S_ .f32 0x00000000#32) reducesTo_S8192x4096_S8192_d1 h_S_))
      (broadcastInDim S8192x1 ![] bcast_S_S8192x1 (constant S_ .f32 0x45800000#32)))
    (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 g))

/-- The rows after the first residual. -/
def refMid : FVec Ideal S8192x4096 .f32 := addf (refX m c) (refRms (refY m c) (refG m c))

/-- The queries. -/
def refQuery : FVec Ideal S8192x512 .f32 :=
  Host.dotGeneral dot_S8192x4096_S4096x512_S8192x512_1_0_0_1_n_n none (refRms (refMid m c) (refPre m c)) (refQ m c)

/-- The scaled scores of queries against keys, head by head. -/
def scoresOf (q : FVec Ideal S8192x512 .f32) (kv : FVec Ideal S256x1024 .bf16) : FVec Ideal S4x8192x256 .f32 :=
  mulf (Host.dotGeneral dot_S8192x4x128_S256x4x128_S4x8192x256_2_2_0_0_1_1 none (shapeCast _ q shapeCasts_S8192x512_S8192x4x128)
      (shapeCast _ (extractStridedSlice S256x512 ![0, 0] (extf .f32 kv bitsLt_bf16_f32) slices_S256x1024_S256x512_0_0) shapeCasts_S256x512_S256x4x128))
    (broadcastInDim S4x8192x256 ![] bcast_S_S4x8192x256 (constant S_ .f32 0x3DB504F3#32))

/-- The greatest score of every row. -/
def topsOf (s : FVec Ideal S4x8192x256 .f32) : FVec Ideal S4x8192 .f32 :=
  Host.reduce FloatOps.maximumf s (constant S_ .f32 0xFF800000#32) reducesTo_S4x8192x256_S4x8192_d2 h_S_

/-- A value a row, and at least the literal no value is less than. -/
def floorOf (t : FVec Ideal S4x8192 .f32) : FVec Ideal S4x8192 .f32 :=
  maximumf (broadcastInDim S4x8192 ![] bcast_S_S4x8192 (constant S_ .f32 0xFF800000#32)) t

/-- The exponentials of scores less a value a row. -/
def expsOf (s : FVec Ideal S4x8192x256 .f32) (t : FVec Ideal S4x8192 .f32) : FVec Ideal S4x8192x256 .f32 :=
  Host.exp (subf s (broadcastInDim S4x8192x256 ![0, 1, 2] bcast_S4x8192x1_S4x8192x256_0_1_2 (broadcastInDim S4x8192x1 ![0, 1] bcast_S4x8192_S4x8192x1_0_1 t)))

/-- The scores' exponentials, each score less the greatest of its row. -/
def softOf (s : FVec Ideal S4x8192x256 .f32) : FVec Ideal S4x8192x256 .f32 := expsOf s (floorOf (topsOf s))

/-- The mixture of the values by exponentials over their row's sum. -/
def mixOf (p : FVec Ideal S4x8192x256 .f32) (kv : FVec Ideal S256x1024 .bf16) : FVec Ideal S8192x512 .f32 :=
  shapeCast _ (transpose S8192x4x128 [2, 0, 1] (Host.dotGeneral dot_S256x4x128_S4x8192x256_S4x128x8192_0_2_2_1_1_0 none
    (shapeCast _ (extractStridedSlice S256x512 ![0, 512] (extf .f32 kv bitsLt_bf16_f32) slices_S256x1024_S256x512_0_512) shapeCasts_S256x512_S256x4x128)
    (Host.divf p (broadcastInDim S4x8192x256 ![0, 1, 2] bcast_S4x8192x1_S4x8192x256_0_1_2 (broadcastInDim S4x8192x1 ![0, 1] bcast_S4x8192_S4x8192x1_0_1
      (Host.reduceAdd p (constant S_ .f32 0x00000000#32) reducesTo_S4x8192x256_S4x8192_d2 h_S_)))))
    transposes_S4x128x8192_S8192x4x128_2_0_1) shapeCasts_S8192x4x128_S8192x512

/-- The reference's result. -/
def refOut : FVec Ideal S8192x4096 .f32 :=
  addf (refMid m c) (refRms (Host.dotGeneral dot_S8192x512_S512x4096_S8192x4096_1_0_0_1_n_n none
    (mixOf (softOf (scoresOf (refQuery m c) (refKV m c))) (refKV m c)) (refO m c)) (refPost m c))

theorem refRms_apply (x : FVec Ideal S8192x4096 .f32) (g : FVec Ideal S4096 .f32) (r : Fin 8192) (d : Fin 4096) :
    refRms x g (ix2 r d) = rms (fun k => x (ix2 r k)) (g (ix1 d)) d := by
  unfold refRms
  pointwise
  rfl

theorem scoresOf_apply (q : FVec Ideal S8192x512 .f32) (kv : FVec Ideal S256x1024 .bf16) (h : Fin 4) (r : Fin 8192) (j : Fin 256) :
    scoresOf q kv (ix3 h r j) = score (fun n => q (ix2 r n)) (fun j n => kv (ix2 j ⟨n.val, by omega⟩)) h j * scale := by
  unfold scoresOf
  pointwise
  simp only [score, col, Nat.mul_comm 128]
  rfl

theorem topsOf_apply (s : FVec Ideal S4x8192x256 .f32) (h : Fin 4) (r : Fin 8192) : topsOf s (ix2 h r) = top fun j => s (ix3 h r j) := by
  unfold topsOf top
  pointwise

/-- The literal no maximum is less than. -/
theorem ofBits_least : Ideal.ofBits .f32 0xFF800000#32 = ⊥ := by
  simp [Ideal.ofBits, Ideal.ieee]

theorem floorOf_apply (t : FVec Ideal S4x8192 .f32) (h : Fin 4) (r : Fin 8192) : floorOf t (ix2 h r) = t (ix2 h r) := by
  unfold floorOf
  pointwise
  exact (congrArg (max · (t (ix2 h r))) ofBits_least).trans (max_eq_right bot_le)

theorem expsOf_apply (s : FVec Ideal S4x8192x256 .f32) (t : FVec Ideal S4x8192 .f32) (h : Fin 4) (r : Fin 8192) (j : Fin 256) :
    expsOf s t (ix3 h r j) = Ideal.exp (s (ix3 h r j) - t (ix2 h r)) := by
  unfold expsOf
  pointwise

theorem softOf_apply (s : FVec Ideal S4x8192x256 .f32) (h : Fin 4) (r : Fin 8192) (j : Fin 256) :
    softOf s (ix3 h r j) = Ideal.exp (s (ix3 h r j) - top fun j => s (ix3 h r j)) :=
  (expsOf_apply s _ h r j).trans (congrArg (fun x => Ideal.exp (s (ix3 h r j) - x)) ((floorOf_apply _ h r).trans (topsOf_apply s h r)))

theorem mixOf_apply (p : FVec Ideal S4x8192x256 .f32) (kv : FVec Ideal S256x1024 .bf16) (r : Fin 8192) (n : Fin 512) :
    mixOf p kv (ix2 r n) = ∑ j, Ideal.div (p (ix3 (headOf n) r j)) (∑ i, p (ix3 (headOf n) r i)) * kv (ix2 j ⟨512 + n.val, by omega⟩) := by
  unfold mixOf
  pointwise
  exact Finset.sum_congr rfl fun j _ => mul_comm _ _

/-- The reference's row after the first residual. -/
def refRowMid (r : Fin 8192) : Fin 4096 → EReal :=
  mid (fun k => refX m c (ix2 r k)) (fun k => refY m c (ix2 r k)) (fun k => refG m c (ix1 k))

/-- The reference's query row. -/
def refRowQuery (r : Fin 8192) : Fin 512 → EReal := query (refRowMid m c r) (fun k => refPre m c (ix1 k)) (fun k n => refQ m c (ix2 k n))

theorem refMid_apply (r : Fin 8192) (d : Fin 4096) : refMid m c (ix2 r d) = refRowMid m c r d := by
  unfold refMid
  pointwise
  rw [refRms_apply]
  rfl

theorem refQuery_apply (r : Fin 8192) (n : Fin 512) : refQuery m c (ix2 r n) = refRowQuery m c r n := by
  unfold refQuery
  pointwise
  simp only [refRms_apply, refMid_apply]
  rfl

/-- The reference's result, entry by entry. -/
theorem reference_apply (r : Fin 8192) (d : Fin 4096) :
    refOut m c (ix2 r d)
      = finish (refRowMid m c r)
          (mixReference (refRowQuery m c r) (fun j n => refKV m c (ix2 j ⟨n.val, by omega⟩)) (fun j n => refKV m c (ix2 j ⟨512 + n.val, by omega⟩)))
          (fun n d => refO m c (ix2 n d)) (fun k => refPost m c (ix1 k)) d := by
  unfold refOut
  pointwise
  simp only [refRms_apply, refMid_apply]
  pointwise
  simp only [mixOf_apply, softOf_apply, scoresOf_apply, refQuery_apply]
  rfl

end Reference

section Precondition
open Cert.Pre_finite_scores

/-- The shape relations the precondition's operations take. -/
theorem pre_facts : Cert.Pre_finite_scores.Facts where
  slices_S256x1024_S256x512_0_0 := by decide
  bcast_S_S8192x4096 := by decide
  bcast_S_S4096 := by decide
  bcast_S_S4096x512 := by decide
  bcast_S_S256x512 := by decide

theorem ofBits_inf : Ideal.ofBits .f32 0x7F800000#32 = ⊤ := by
  simp [Ideal.ofBits, Ideal.ieee]

theorem ofBits_inf16 : Ideal.ofBits .bf16 0x7F80#16 = ⊤ := by
  simp [Ideal.ofBits, Ideal.ieee]

/-- A value whose magnitude compares below infinity is a real number. -/
theorem isReal_of_cmp (x b : EReal) (hb : b = ⊤) (h : Ideal.cmp .olt (max x (-x)) b = 1#1) : IsReal x := by
  subst hb
  induction x with
  | bot => simp [Ideal.cmp] at h
  | top => simp [Ideal.cmp] at h
  | coe r => exact ⟨r, rfl⟩

/-- The same of an entry of an array. -/
theorem isReal_of_lt {S : Shape} {f : FTy} (a t : FVec Ideal S f) (i : S.Idx) (ht : t i = (⊤ : EReal)) (h : cmpf .olt (Host.absf a) t = fun _ => 1#1) :
    IsReal (a i) := isReal_of_cmp (a i) (t i) ht (congrFun h i)

variable [Cert.Pre_finite_scores.Facts]
open Facts

/-- The precondition of one device: what the predicate returns is true in every entry. -/
def Finite (x y : FVec Ideal S8192x4096 .f32) (g gp gq : FVec Ideal S4096 .f32) (wq : FVec Ideal S4096x512 .f32) (kv : FVec Ideal S256x1024 .bf16)
    (wo : FVec Ideal S512x4096 .f32) : Prop :=
  (fn (F := Ideal) x y g gp gq wq kv wo).1 = (fun _ => 1#1) ∧ (fn (F := Ideal) x y g gp gq wq kv wo).2.1 = (fun _ => 1#1)
    ∧ (fn (F := Ideal) x y g gp gq wq kv wo).2.2.1 = (fun _ => 1#1) ∧ (fn (F := Ideal) x y g gp gq wq kv wo).2.2.2.1 = (fun _ => 1#1)
    ∧ (fn (F := Ideal) x y g gp gq wq kv wo).2.2.2.2.1 = (fun _ => 1#1) ∧ (fn (F := Ideal) x y g gp gq wq kv wo).2.2.2.2.2 = (fun _ => 1#1)

/-- The first half of the columns, entry by entry. -/
theorem keys_apply (kv : FVec Ideal S256x1024 .bf16) (j : Fin 256) (n : Fin 512) :
    (extractStridedSlice S256x512 ![0, 0] kv slices_S256x1024_S256x512_0_0 : FVec Ideal S256x512 .bf16) (ix2 j n) = kv (ix2 j ⟨n.val, by omega⟩) := by
  pointwise

/-- Under the precondition every entry a score reads is a real number. -/
theorem real_of_finite {x y : FVec Ideal S8192x4096 .f32} {g gp gq : FVec Ideal S4096 .f32} {wq : FVec Ideal S4096x512 .f32}
    {kv : FVec Ideal S256x1024 .bf16} {wo : FVec Ideal S512x4096 .f32} (h : Finite x y g gp gq wq kv wo) :
    (∀ i, IsReal (x i)) ∧ (∀ i, IsReal (y i)) ∧ (∀ i, IsReal (g i)) ∧ (∀ i, IsReal (gp i)) ∧ (∀ i, IsReal (wq i))
      ∧ ∀ (j : Fin 256) (n : Fin 512), IsReal (kv (ix2 j ⟨n.val, by omega⟩)) := by
  obtain ⟨h0, h1, h2, h3, h4, h5⟩ := h
  dsimp only [fn, fn_part1] at h0 h1 h2 h3 h4 h5
  exact ⟨fun i => isReal_of_lt x _ i ofBits_inf h0, fun i => isReal_of_lt y _ i ofBits_inf h1, fun i => isReal_of_lt g _ i ofBits_inf h2,
    fun i => isReal_of_lt gp _ i ofBits_inf h3, fun i => isReal_of_lt wq _ i ofBits_inf h4,
    fun j n => keys_apply kv j n ▸ isReal_of_lt _ _ (ix2 j n) ofBits_inf16 h5⟩

end Precondition

/-- From arguments that agree, and from which every score is a real number, the kernel's result is the reference's. -/
theorem kernel_eq_reference [Cert.Pre_finite_scores.Facts] (m : (ℓ : Loc Cert.Kernel7Ideal.nD Cert.Kernel7Ideal.τ Cert.Kernel7Ideal.sig) → Buf (Elt Ideal) ℓ)
    (c : Dev Cert.Kernel7Ideal.nD)
    (m' : (ℓ : Loc Cert.Reference7Ideal.nD Cert.Reference7Ideal.τ Cert.Reference7Ideal.sig) → Buf (Elt Ideal) ℓ)
    (hf : Finite (argX m c) (argY m c) (argG m c) (argPre m c) (argPost m c) (argQ m c) (argKV m c) (argO m c))
    (h0 : argX m c = refX m' c) (h1 : argY m c = refY m' c) (h2 : argG m c = refG m' c) (h3 : argPre m c = refPre m' c)
    (h4 : argPost m c = refPost m' c) (h5 : argQ m c = refQ m' c) (h6 : argKV m c = refKV m' c) (h7 : argO m c = refO m' c) :
    refOut m' c = (Cert.Kernel7Ideal.Gen.dats m 0 c).arrAt 9 Cert.Kernel7Ideal.cfg0.N := by
  obtain ⟨hx, hy, hg, hp, hw, hk⟩ := real_of_finite hf
  refine funext fun i => ?_
  obtain ⟨r, d, rfl⟩ : ∃ (r : Fin 8192) (d : Fin 4096), i = ix2 r d := ⟨i 0, i 1, by funext a; match a with | 0 => rfl | 1 => rfl⟩
  refine (reference_apply m' c r d).trans (Eq.trans ?_ (kernel_apply m c r d).symm)
  unfold refRowQuery refRowMid
  rw [← h0, ← h1, ← h2, ← h3, ← h4, ← h5, ← h6, ← h7]
  exact congrArg (fun o => finish (rowMid m c r) o (fun n d => argO m c (ix2 n d)) (fun k => argPost m c (ix1 k)) d)
    (funext fun n => (mix_eq _ _ _ _ _ _ _ (fun k => hx _) (fun k => hy _) (fun k => hg _) (fun k => hp _) (fun k n => hw _) hk n).symm)

end Cert.Proof.Memory
end
-- ==== Proof.MemoryKV.lean ====
module

public import proofs.«01_k».proof.Proof.Gen.Kernel8Ideal.Value
public import proofs.«01_k».proof.Proof.Gen.Reference8Ideal.Run
public import proofs.«01_k».proof.Proof.Rows

/-! The memory's keys and values: the normalised memory rows times both weights side by side. -/

@[expose] public section

set_option maxRecDepth 16384

noncomputable section

namespace Cert.Proof.MemoryKV

open Idealize.ShloMosaic Idealize.ShloMosaic.TcCoe Idealize.SL.Sem Idealize.ShloMosaic.Tactic
open Cert.Proof.Rows
open scoped BigOperators

/-- Two weights of 512 columns side by side. -/
def sideBySide (wk wv : Fin 4096 → Fin 512 → EReal) (k : Fin 4096) (d : Fin 1024) : EReal :=
  if h : d.val < 512 then wk k ⟨d.val, h⟩ else wv k ⟨d.val - 512, by omega⟩

section Kernel
open Cert.Kernel8Ideal Cert.Kernel8Ideal.Gen

variable (m : (ℓ : Loc nD τ sig) → Buf (Elt Ideal) ℓ) (c : Dev nD)

/-- The normalised memory rows the launch gave. -/
def argX : FVec Ideal S256x4096 .bf16 := m ((c : Thread nD τ).loc main_arg0)
/-- The keys' weights. -/
def argK : FVec Ideal S4096x512 .f32 := m ((c : Thread nD τ).loc main_arg1)
/-- The values' weights. -/
def argV : FVec Ideal S4096x512 .f32 := m ((c : Thread nD τ).loc main_arg2)
/-- The block of memory rows the one grid point finds. -/
def xBlock (t : Fin cfg0.N) : FVec Ideal S256x4096 .bf16 := iblk m c 0 t
/-- The block of weights it finds. -/
def wBlock (t : Fin cfg0.N) : FVec Ideal S4096x1024 .bf16 := iblk m c 1 t

theorem idx0 : ∀ t : Fin grid0.N, win0_0.index t (0 : Fin 2) = 0 ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem flush2 : ∀ t : Fin cfg0.N, (cfg0.win 2).flush t = true := by decide +kernel

/-- The host's weights: those of the keys and of the values side by side. -/
theorem V_w (k : Fin 4096) (d : Fin 1024) :
    (V m c main_v1 : FVec Ideal S4096x1024 .bf16) (ix2 k d) = sideBySide (fun k d => argK m c (ix2 k d)) (fun k d => argV m c (ix2 k d)) k d := by
  unfold V argK argV sideBySide
  after_results_simp
  pointwise

theorem xBlock_apply (t : Fin cfg0.N) (r : Fin 256) (k : Fin 4096) : xBlock m c t (ix2 r k) = argX m c (ix2 r k) := by
  have h := idx0 t
  unfold xBlock
  blk_simp [iblk, V_main_arg0]
  refine (congrFun (V_main_arg0 m c) _).trans (congrArg (argX m c) ?_)
  blk_ext [h]

theorem wBlock_apply (t : Fin cfg0.N) (k : Fin 4096) (d : Fin 1024) :
    wBlock m c t (ix2 k d) = sideBySide (fun k d => argK m c (ix2 k d)) (fun k d => argV m c (ix2 k d)) k d := by
  have h := idx1 t
  unfold wBlock
  blk_simp [iblk]
  refine Eq.trans (congrArg (V m c main_v1 : FVec Ideal S4096x1024 .bf16) ?_) (V_w m c k d)
  blk_ext [h]

/-- What the body leaves in the result's buffer, entry by entry, from its two blocks. -/
theorem out_apply (t : Fin cfg0.N) (r : Fin 256) (d : Fin 1024) :
    (out0_2 (F := Ideal) (xBlock m c t) (wBlock m c t) : FVec Ideal S256x1024 .bf16) (ix2 r d) = ∑ k : Fin 4096, xBlock m c t (ix2 r k) * wBlock m c t (ix2 k d) := by
  unfold out0_2
  frame_out
  pointwise [k0_pay1]

/-- The kernel's result, entry by entry. -/
theorem kernel_apply (r : Fin 256) (d : Fin 1024) :
    ((dats m 0 c).arrAt 2 cfg0.N : FVec Ideal S256x1024 .bf16) (ix2 r d)
      = dot4096 (fun r k => argX m c (ix2 r k)) (sideBySide (fun k d => argK m c (ix2 k d)) (fun k d => argV m c (ix2 k d))) r d := by
  let t : Fin cfg0.N := ⟨0, by decide⟩
  have h := idx2 t
  refine Eq.trans ?_ ((congrFun (Value.blocks2 m c t (flush2 t)) (ix2 r d)).trans ?_)
  · refine congrArg ((dats m 0 c).arrAt 2 cfg0.N : FVec Ideal S256x1024 .bf16) ?_
    blk_ext [h]
  · rw [Value.flushed2]
    refine (out_apply m c t _ _).trans ?_
    refine Finset.sum_congr rfl fun k _ => ?_
    rw [xBlock_apply m c t _ k, wBlock_apply m c t k _]

end Kernel

section Reference
open Cert.Reference8Ideal Cert.Reference8Ideal.Gen

variable (m : (ℓ : Loc nD τ sig) → Buf (Elt Ideal) ℓ) (c : Dev nD)

/-- The reference's normalised memory rows. -/
def refX : FVec Ideal S256x4096 .bf16 := m ((c : Thread nD τ).loc main_arg0)
/-- The reference's keys' weights. -/
def refK : FVec Ideal S4096x512 .f32 := m ((c : Thread nD τ).loc main_arg1)
/-- The reference's values' weights. -/
def refV : FVec Ideal S4096x512 .f32 := m ((c : Thread nD τ).loc main_arg2)

/-- The reference's result: the two products side by side. -/
def refOut : FVec Ideal S256x1024 .bf16 :=
  truncf .bf16 (concatenate S256x1024 1
    [⟨S256x512, Host.dotGeneral dot_S256x4096_S4096x512_S256x512_1_0_0_1_n_n none (extf .f32 (refX m c) bitsLt_bf16_f32) (refK m c)⟩,
     ⟨S256x512, Host.dotGeneral dot_S256x4096_S4096x512_S256x512_1_0_0_1_n_n none (extf .f32 (refX m c) bitsLt_bf16_f32) (refV m c)⟩]
    concatenates_S256x512_S256x512_S256x1024_d1) bitsLt_bf16_f32

/-- The reference's result, entry by entry. -/
theorem reference_apply (r : Fin 256) (d : Fin 1024) :
    refOut m c (ix2 r d)
      = dot4096 (fun r k => refX m c (ix2 r k)) (sideBySide (fun k d => refK m c (ix2 k d)) (fun k d => refV m c (ix2 k d))) r d := by
  unfold refOut dot4096 sideBySide
  pointwise
  by_cases h : d.val < 512
  · simp only [dif_pos h]
  · simp only [dif_neg h]

end Reference

/-- From arguments that agree, the kernel's result is the reference's. -/
theorem kernel_eq_reference (m : (ℓ : Loc Cert.Kernel8Ideal.nD Cert.Kernel8Ideal.τ Cert.Kernel8Ideal.sig) → Buf (Elt Ideal) ℓ)
    (c : Dev Cert.Kernel8Ideal.nD)
    (m' : (ℓ : Loc Cert.Reference8Ideal.nD Cert.Reference8Ideal.τ Cert.Reference8Ideal.sig) → Buf (Elt Ideal) ℓ)
    (h0 : argX m c = refX m' c) (h1 : argK m c = refK m' c) (h2 : argV m c = refV m' c) :
    refOut m' c = (Cert.Kernel8Ideal.Gen.dats m 0 c).arrAt 2 Cert.Kernel8Ideal.cfg0.N := by
  refine funext fun i => ?_
  obtain ⟨r, d, rfl⟩ : ∃ (r : Fin 256) (d : Fin 1024), i = ix2 r d := ⟨i 0, i 1, by funext a; match a with | 0 => rfl | 1 => rfl⟩
  refine (reference_apply m' c r d).trans (Eq.trans ?_ (kernel_apply m c r d).symm)
  rw [h0, h1, h2]

end Cert.Proof.MemoryKV
end
-- ==== Proof.Norm.lean ====
module

public import proofs.«01_k».proof.Proof.Gen.Kernel9Ideal.Value
public import proofs.«01_k».proof.Proof.Gen.Reference9Ideal.Run
public import proofs.«01_k».proof.Proof.Rows

/-! The norm before the input projection: each row divided by its root mean square, times the gain, rounded. -/

@[expose] public section

set_option maxRecDepth 16384

noncomputable section

namespace Cert.Proof.Norm

open Idealize.ShloMosaic Idealize.ShloMosaic.TcCoe Idealize.SL.Sem Idealize.ShloMosaic.Tactic
open Cert.Proof.Rows
open scoped BigOperators

section Kernel
open Cert.Kernel9Ideal Cert.Kernel9Ideal.Gen

variable (m : (ℓ : Loc nD τ sig) → Buf (Elt Ideal) ℓ) (c : Dev nD)

/-- The activations the launch gave. -/
def argX : FVec Ideal S8192x4096 .f32 := m ((c : Thread nD τ).loc main_arg0)
/-- The gain. -/
def argG : FVec Ideal S4096 .f32 := m ((c : Thread nD τ).loc main_arg1)
/-- The block of activations a grid point finds. -/
def xBlock (t : Fin cfg0.N) : FVec Ideal S256x4096 .f32 := iblk m c 0 t
/-- The gain as it finds it. -/
def gBlock (t : Fin cfg0.N) : FVec Ideal S1x4096 .f32 := iblk m c 1 t

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = t.val ∧ win0_2.index t (1 : Fin 2) = 0 := by decide +kernel
theorem flush2 : ∀ t : Fin cfg0.N, (cfg0.win 2).flush t = true := by decide +kernel

/-- The host's gain: the same numbers as one row. -/
theorem V_g (d : Fin 4096) : (V m c main_v0 : FVec Ideal S1x4096 .f32) (ix2 0 d) = argG m c (ix1 d) := by
  unfold V argG
  after_results_simp
  pointwise

theorem xBlock_apply (t : Fin cfg0.N) (r : Fin 256) (k : Fin 4096) (hb : 256 * t.val + r.val < 8192) :
    xBlock m c t (ix2 r k) = argX m c (ix2 ⟨256 * t.val + r.val, hb⟩ k) := by
  have h := idx0 t
  unfold xBlock
  blk_simp [iblk, V_main_arg0]
  refine (congrFun (V_main_arg0 m c) _).trans (congrArg (argX m c) ?_)
  blk_ext [h]

theorem gBlock_apply (t : Fin cfg0.N) (d : Fin 4096) : gBlock m c t (ix2 0 d) = argG m c (ix1 d) := by
  have h := idx1 t
  unfold gBlock
  blk_simp [iblk]
  refine Eq.trans (congrArg (V m c main_v0 : FVec Ideal S1x4096 .f32) ?_) (V_g m c d)
  blk_ext [h]

/-- What the body leaves in the result's buffer, entry by entry, from its two blocks. -/
theorem out_apply (t : Fin cfg0.N) (r : Fin 256) (d : Fin 4096) :
    (out0_2 (F := Ideal) (xBlock m c t) (gBlock m c t) : FVec Ideal S256x4096 .bf16) (ix2 r d)
      = rms (fun k => xBlock m c t (ix2 r k)) (gBlock m c t (ix2 0 d)) d := by
  unfold out0_2 rms rstd
  frame_out
  pointwise [k0_pay1]

/-- The kernel's result, entry by entry. -/
theorem kernel_apply (r : Fin 8192) (d : Fin 4096) :
    ((dats m 0 c).arrAt 2 cfg0.N : FVec Ideal S8192x4096 .bf16) (ix2 r d)
      = rms (fun k => argX m c (ix2 r k)) (argG m c (ix1 d)) d := by
  let t : Fin cfg0.N := ⟨r.val / 256, by have := r.isLt; change _ < 32; omega⟩
  let p : Fin 256 := ⟨r.val % 256, Nat.mod_lt _ (by norm_num)⟩
  have hr : 256 * t.val + p.val = r.val := Nat.div_add_mod _ _
  have h := idx2 t
  refine Eq.trans ?_ ((congrFun (Value.blocks2 m c t (flush2 t)) (ix2 p d)).trans ?_)
  · refine congrArg ((dats m 0 c).arrAt 2 cfg0.N : FVec Ideal S8192x4096 .bf16) ?_
    blk_ext [h, hr]
  · rw [Value.flushed2]
    refine (out_apply m c t _ _).trans ?_
    simp only [gBlock_apply, xBlock_apply m c t p _ (by omega), hr]

end Kernel

section Reference
open Cert.Reference9Ideal Cert.Reference9Ideal.Gen

variable (m : (ℓ : Loc nD τ sig) → Buf (Elt Ideal) ℓ) (c : Dev nD)

/-- The reference's activations. -/
def refX : FVec Ideal S8192x4096 .f32 := m ((c : Thread nD τ).loc main_arg0)
/-- The reference's gain. -/
def refG : FVec Ideal S4096 .f32 := m ((c : Thread nD τ).loc main_arg1)

/-- The reciprocal of each row's root mean square, as the reference computes it. -/
def refRstd : FVec Ideal S8192x1 .f32 :=
  Host.rsqrt (addf (Host.divf (broadcastInDim S8192x1 ![0] bcast_S8192_S8192x1_0
      (Host.reduceAdd (mulf (refX m c) (refX m c)) (constant S_ .f32 0x00000000#32) reducesTo_S8192x4096_S8192_d1 h_S_))
    (broadcastInDim S8192x1 ![] bcast_S_S8192x1 (constant S_ .f32 0x45800000#32)))
    (broadcastInDim S8192x1 ![] bcast_S_S8192x1 (constant S_ .f32 0x358637BD#32)))

/-- The reference's result. -/
def refOut : FVec Ideal S8192x4096 .bf16 :=
  truncf .bf16 (mulf (mulf (refX m c) (broadcastInDim S8192x4096 ![0, 1] bcast_S8192x1_S8192x4096_0_1 (refRstd m c)))
    (broadcastInDim S8192x4096 ![0, 1] bcast_S1x4096_S8192x4096_0_1 (broadcastInDim S1x4096 ![1] bcast_S4096_S1x4096_1 (refG m c)))) bitsLt_bf16_f32

/-- The reference's result, entry by entry. -/
theorem reference_apply (r : Fin 8192) (d : Fin 4096) :
    refOut m c (ix2 r d) = rms (fun k => refX m c (ix2 r k)) (refG m c (ix1 d)) d := by
  unfold refOut refRstd rms rstd
  pointwise

end Reference

/-- From arguments that agree, the kernel's result is the reference's. -/
theorem kernel_eq_reference (m : (ℓ : Loc Cert.Kernel9Ideal.nD Cert.Kernel9Ideal.τ Cert.Kernel9Ideal.sig) → Buf (Elt Ideal) ℓ)
    (c : Dev Cert.Kernel9Ideal.nD)
    (m' : (ℓ : Loc Cert.Reference9Ideal.nD Cert.Reference9Ideal.τ Cert.Reference9Ideal.sig) → Buf (Elt Ideal) ℓ)
    (h0 : argX m c = refX m' c) (h1 : argG m c = refG m' c) :
    refOut m' c = (Cert.Kernel9Ideal.Gen.dats m 0 c).arrAt 2 Cert.Kernel9Ideal.cfg0.N := by
  refine funext fun i => ?_
  obtain ⟨r, d, rfl⟩ : ∃ (r : Fin 8192) (d : Fin 4096), i = ix2 r d := ⟨i 0, i 1, by funext a; match a with | 0 => rfl | 1 => rfl⟩
  refine (reference_apply m' c r d).trans (Eq.trans ?_ (kernel_apply m c r d).symm)
  rw [h0, h1]

end Cert.Proof.Norm
end
-- ==== Proof.Compress.lean ====
module

public import proofs.«01_k».proof.Proof.Gen.Kernel10Ideal.Value
public import proofs.«01_k».proof.Proof.Gen.Reference10Ideal.Run
public import proofs.«01_k».proof.Proof.Rows

/-! The compression of keys and values. -/

@[expose] public section

set_option maxRecDepth 16384

noncomputable section

namespace Cert.Proof.Compress

open Idealize.ShloMosaic Idealize.ShloMosaic.TcCoe Idealize.SL.Sem Idealize.ShloMosaic.Tactic
open Cert.Proof.Rows
open scoped BigOperators

/-- The activation: the tanh form of gelu. -/
def gelu (v : EReal) : EReal :=
  v * (Ideal.ofBits .f32 0x3F000000#32 * (1 + Ideal.tanh (Ideal.ofBits .f32 0x3F4C422A#32 * (v + Ideal.ofBits .f32 0x3D372713#32 * (v * v * v)))))

/-- One token's part of a block's first product: token `l` of block `r`, whose tokens are the 32 from `16 r` on
(around the end of the sequence), with its position's embedding, against the token's 128 rows of the weights. -/
def tokenPart (x : Fin 8192 → Fin 128 → EReal) (pe : Fin 32 → Fin 128 → EReal) (w1 : Fin 4096 → Fin 128 → EReal) (r : Fin 512) (d : Fin 128) (l : Fin 32) : EReal :=
  ∑ e : Fin 128, (x ⟨(16 * r.val + l.val) % 8192, Nat.mod_lt _ (by norm_num)⟩ e + pe l e) * w1 ⟨128 * l.val + e.val, by omega⟩ d

/-- A block's first product. -/
def pre (x : Fin 8192 → Fin 128 → EReal) (pe : Fin 32 → Fin 128 → EReal) (w1 : Fin 4096 → Fin 128 → EReal) (r : Fin 512) (d : Fin 128) : EReal :=
  ∑ l : Fin 32, tokenPart x pe w1 r d l

/-- A block's compressed key or value. -/
def comp (x : Fin 8192 → Fin 128 → EReal) (pe : Fin 32 → Fin 128 → EReal) (w1 : Fin 4096 → Fin 128 → EReal) (w2 : Fin 128 → Fin 128 → EReal) (r : Fin 512) (d : Fin 128) : EReal :=
  ∑ h : Fin 128, gelu (pre x pe w1 r h) * w2 h d

/-- The block after block `r`, the first after the last. -/
def next (r : Fin 512) : Fin 512 := ⟨(r.val + 512 - 511) % 512, Nat.mod_lt _ (by norm_num)⟩

/-- A token of the first half of block `r`. -/
def lowPart (x : Fin 8192 → Fin 128 → EReal) (pe : Fin 32 → Fin 128 → EReal) (w1 : Fin 4096 → Fin 128 → EReal) (r : Fin 512) (d : Fin 128) (l : Fin 16) : EReal :=
  ∑ e : Fin 128, (x ⟨(16 * r.val + l.val) % 8192, Nat.mod_lt _ (by norm_num)⟩ e + pe ⟨l.val, by omega⟩ e) * w1 ⟨128 * l.val + e.val, by omega⟩ d

/-- The same token of the sequence as one of the second half of the block before it. -/
def highPart (x : Fin 8192 → Fin 128 → EReal) (pe : Fin 32 → Fin 128 → EReal) (w1 : Fin 4096 → Fin 128 → EReal) (r : Fin 512) (d : Fin 128) (l : Fin 16) : EReal :=
  ∑ e : Fin 128, (x ⟨(16 * r.val + l.val) % 8192, Nat.mod_lt _ (by norm_num)⟩ e + pe ⟨16 + l.val, by omega⟩ e) * w1 ⟨128 * (16 + l.val) + e.val, by omega⟩ d

/-- A block is its own first sixteen tokens and the next block's. -/
theorem pre_halves (x : Fin 8192 → Fin 128 → EReal) (pe : Fin 32 → Fin 128 → EReal) (w1 : Fin 4096 → Fin 128 → EReal) (r : Fin 512) (d : Fin 128) :
    pre x pe w1 r d = (∑ l : Fin 16, lowPart x pe w1 r d l) + ∑ l : Fin 16, highPart x pe w1 (next r) d l := by
  unfold pre
  refine (Fin.sum_univ_add (a := 16) (b := 16) _).trans (congrArg₂ (· + ·) (Finset.sum_congr rfl fun l _ => rfl) (Finset.sum_congr rfl fun l _ => Finset.sum_congr rfl fun e _ => ?_))
  refine congrArg₂ (· * ·) (congrArg₂ (· + ·) (congrArg (fun k => x k e) (Fin.ext ?_)) rfl) rfl
  show (16 * r.val + (16 + l.val)) % 8192 = (16 * ((r.val + 512 - 511) % 512) + l.val) % 8192
  omega

/-- A sum of sixteen terms, one after the other, its first written in another form. -/
theorem sum16 (f : Fin 16 → EReal) (a : EReal) (h : f 0 = a) :
    ∑ l : Fin 16, f l = a + f 1 + f 2 + f 3 + f 4 + f 5 + f 6 + f 7 + f 8 + f 9 + f 10 + f 11 + f 12 + f 13 + f 14 + f 15 := by
  subst h
  simp only [Fin.sum_univ_castSucc, Fin.sum_univ_zero, zero_add]
  rfl

/-- A first half's first token. -/
theorem lowPart_zero (x : Fin 8192 → Fin 128 → EReal) (pe : Fin 32 → Fin 128 → EReal) (w1 : Fin 4096 → Fin 128 → EReal) (r : Fin 512) (d : Fin 128) :
    lowPart x pe w1 r d 0 = ∑ e : Fin 128, (x ⟨(16 * r.val + 0) % 8192, Nat.mod_lt _ (by norm_num)⟩ e + pe 0 e) * w1 ⟨e.val, by omega⟩ d :=
  Finset.sum_congr rfl fun e _ => congrArg (fun k => (x _ e + pe 0 e) * w1 k d) (Fin.ext (Nat.zero_add e.val))

/-- The first or the second of two. -/
def pick {α : Type} (a b : α) (s : Fin 2) : α := if s.val < 1 then a else b

section Kernel
open Cert.Kernel10Ideal Cert.Kernel10Ideal.Gen

variable (m : (ℓ : Loc nD τ sig) → Buf (Elt Ideal) ℓ) (c : Dev nD)

/-- The keys and values the launch gave. -/
def argX : FVec Ideal S8192x1024 .f32 := m ((c : Thread nD τ).loc main_arg0)
/-- The keys' embedding of positions in a block. -/
def argPeK : FVec Ideal S32x128 .f32 := m ((c : Thread nD τ).loc main_arg1)
/-- The keys' first weights. -/
def argW1K : FVec Ideal S4096x128 .f32 := m ((c : Thread nD τ).loc main_arg2)
/-- The keys' second weights. -/
def argW2K : FVec Ideal S128x128 .f32 := m ((c : Thread nD τ).loc main_arg3)
/-- The values' embedding of positions in a block. -/
def argPeV : FVec Ideal S32x128 .f32 := m ((c : Thread nD τ).loc main_arg4)
/-- The values' first weights. -/
def argW1V : FVec Ideal S4096x128 .f32 := m ((c : Thread nD τ).loc main_arg5)
/-- The values' second weights. -/
def argW2V : FVec Ideal S128x128 .f32 := m ((c : Thread nD τ).loc main_arg6)

/-- A strided load of every sixteenth row from row `l` on, entry by entry. -/
theorem rows_apply (a : Memref sig .tc .vmem S8192x128 .f32) (h : a.IsWhole) (x : FVec Ideal S8192x128 .f32) (l : ℕ) (inb) (r : Fin 512) (e : Fin 128) :
    View.readAt (Elt Ideal) a.view { off := ![l, 0], size := ![512, 128], stride := ![16, 1], inb := inb } (h.unread x) (ix2 r e)
      = x (ix2 ⟨(16 * r.val + l) % 8192, Nat.mod_lt _ (by norm_num)⟩ e) := by
  have key := h.readAt_unread (Val := Elt Ideal) x ({ off := ![l, 0], size := ![512, 128], stride := ![16, 1], inb := inb } : LoadRect S8192x128) (ix2 r e)
  refine key.trans (congrArg x ?_)
  have h0 : l + 16 * 511 < 8192 := (inb 0).resolve_left (by decide)
  funext i
  apply Fin.ext
  match i with
  | 0 =>
    show l + 16 * r.val = (16 * r.val + l) % 8192
    omega
  | 1 =>
    show 0 + 1 * e.val = e.val
    omega

/-- What the body leaves in the result's buffer, entry by entry, from its blocks. -/
theorem out_apply (i : grid0.Coords) (arg2 : Memref sig .tc .vmem S8192x128 .f32) (harg2 : arg2.IsWhole) (arg3 : Memref sig .tc .vmem S1x32x128 .f32) (harg3 : arg3.IsWhole)
    (arg4 : Memref sig .tc .vmem S1x4096x128 .bf16) (harg4 : arg4.IsWhole) (arg5 : Memref sig .tc .vmem S1x128x128 .bf16) (harg5 : arg5.IsWhole)
    (arg6 : Memref sig .tc .vmem S1x1x512x128 .bf16) (harg6 : arg6.IsWhole)
    (x : FVec Ideal S8192x128 .f32) (pe : FVec Ideal S1x32x128 .f32) (w1 : FVec Ideal S1x4096x128 .bf16) (w2 : FVec Ideal S1x128x128 .bf16) (r : Fin 512) (d : Fin 128) :
    (out0_A_4 (F := Ideal) c i arg2 harg2 arg3 harg3 arg4 harg4 arg5 harg5 arg6 harg6 x pe w1 w2 : FVec Ideal S1x1x512x128 .bf16) (ix4 0 0 r d)
      = comp (fun n e => x (ix2 n e)) (fun l e => pe (ix3 0 l e)) (fun n e => w1 (ix3 0 n e)) (fun h e => w2 (ix3 0 h e)) r d := by
  unfold out0_A_4
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  simp only [rows_apply]
  refine Finset.sum_congr rfl fun h _ => ?_
  refine congrArg₂ (· * ·) ?_ rfl
  refine Eq.trans ?_ (congrArg gelu ((pre_halves _ _ _ _ _).trans (congrArg₂ (· + ·) (sum16 _ _ (lowPart_zero _ _ _ _ _)) (sum16 _ _ rfl)))).symm
  rfl

theorem idx0 : ∀ t : Fin grid0.N, win0_0.index t (0 : Fin 2) = 0 ∧ win0_0.index t (1 : Fin 2) = t.val := by decide +kernel
theorem idx1 : ∀ t : Fin grid0.N, win0_1.index t (0 : Fin 3) = t.val / 4 ∧ win0_1.index t (1 : Fin 3) = 0 ∧ win0_1.index t (2 : Fin 3) = 0 := by decide +kernel
theorem idx2 : ∀ t : Fin grid0.N, win0_2.index t (0 : Fin 3) = t.val / 4 ∧ win0_2.index t (1 : Fin 3) = 0 ∧ win0_2.index t (2 : Fin 3) = 0 := by decide +kernel
theorem idx3 : ∀ t : Fin grid0.N, win0_3.index t (0 : Fin 3) = t.val / 4 ∧ win0_3.index t (1 : Fin 3) = 0 ∧ win0_3.index t (2 : Fin 3) = 0 := by decide +kernel
theorem idx4 : ∀ t : Fin grid0.N, win0_4.index t (0 : Fin 4) = t.val / 4 ∧ win0_4.index t (1 : Fin 4) = t.val % 4 ∧ win0_4.index t (2 : Fin 4) = 0 ∧ win0_4.index t (3 : Fin 4) = 0 := by decide +kernel
theorem flush4 : ∀ t : Fin cfg0.N, (cfg0.win 4).flush t = true := by decide +kernel

/-- The host's embeddings: the keys' and the values'. -/
theorem V_pe (s : Fin 2) (l : Fin 32) (e : Fin 128) :
    (V m c main_v2 : FVec Ideal S2x32x128 .f32) (ix3 s l e) = pick (argPeK m c) (argPeV m c) s (ix2 l e) := by
  unfold V argPeK argPeV pick
  after_results_simp
  pointwise
  split
  · after_results_simp
  · after_results_simp

/-- The host's first weights: the keys' and the values'. -/
theorem V_w1 (s : Fin 2) (n : Fin 4096) (d : Fin 128) :
    (V m c main_v6 : FVec Ideal S2x4096x128 .bf16) (ix3 s n d) = pick (argW1K m c) (argW1V m c) s (ix2 n d) := by
  unfold V argW1K argW1V pick
  after_results_simp
  pointwise
  split
  · after_results_simp
    pointwise
  · after_results_simp
    pointwise

/-- The host's second weights: the keys' and the values'. -/
theorem V_w2 (s : Fin 2) (h : Fin 128) (d : Fin 128) :
    (V m c main_v10 : FVec Ideal S2x128x128 .bf16) (ix3 s h d) = pick (argW2K m c) (argW2V m c) s (ix2 h d) := by
  unfold V argW2K argW2V pick
  after_results_simp
  pointwise
  split
  · after_results_simp
    pointwise
  · after_results_simp
    pointwise

/-- The block of tokens a grid point finds: a head of the keys or of the values. -/
theorem blk0 (t : Fin cfg0.N) (n : Fin 8192) (e : Fin 128) (hb : 128 * t.val + e.val < 1024) :
    (iblk m c 0 t : FVec Ideal S8192x128 .f32) (ix2 n e) = argX m c (ix2 n ⟨128 * t.val + e.val, hb⟩) := by
  have h := idx0 t
  blk_simp [iblk, V_main_arg0]
  refine (congrFun (V_main_arg0 m c) _).trans (congrArg (argX m c) ?_)
  blk_ext [h]

theorem blk1 (t : Fin cfg0.N) (s : Fin 2) (hs : s.val = t.val / 4) (l : Fin 32) (e : Fin 128) :
    (iblk m c 1 t : FVec Ideal S1x32x128 .f32) (ix3 0 l e) = pick (argPeK m c) (argPeV m c) s (ix2 l e) := by
  have h := idx1 t
  blk_simp [iblk]
  refine Eq.trans (congrArg (V m c main_v2 : FVec Ideal S2x32x128 .f32) ?_) (V_pe m c s l e)
  blk_ext [h, hs]

theorem blk2 (t : Fin cfg0.N) (s : Fin 2) (hs : s.val = t.val / 4) (n : Fin 4096) (d : Fin 128) :
    (iblk m c 2 t : FVec Ideal S1x4096x128 .bf16) (ix3 0 n d) = pick (argW1K m c) (argW1V m c) s (ix2 n d) := by
  have h := idx2 t
  blk_simp [iblk]
  refine Eq.trans (congrArg (V m c main_v6 : FVec Ideal S2x4096x128 .bf16) ?_) (V_w1 m c s n d)
  blk_ext [h, hs]

theorem blk3 (t : Fin cfg0.N) (s : Fin 2) (hs : s.val = t.val / 4) (n : Fin 128) (d : Fin 128) :
    (iblk m c 3 t : FVec Ideal S1x128x128 .bf16) (ix3 0 n d) = pick (argW2K m c) (argW2V m c) s (ix2 n d) := by
  have h := idx3 t
  blk_simp [iblk]
  refine Eq.trans (congrArg (V m c main_v10 : FVec Ideal S2x128x128 .bf16) ?_) (V_w2 m c s n d)
  blk_ext [h, hs]

/-- The kernel's result, entry by entry. -/
theorem kernel_apply (s : Fin 2) (g : Fin 4) (r : Fin 512) (d : Fin 128) :
    ((dats m 0 c).arrAt 4 cfg0.N : FVec Ideal S2x4x512x128 .bf16) (ix4 s g r d)
      = comp (fun n e => argX m c (ix2 n ⟨128 * (4 * s.val + g.val) + e.val, by omega⟩)) (fun l e => pick (argPeK m c) (argPeV m c) s (ix2 l e))
          (fun n d => pick (argW1K m c) (argW1V m c) s (ix2 n d)) (fun h d => pick (argW2K m c) (argW2V m c) s (ix2 h d)) r d := by
  let t : Fin cfg0.N := ⟨4 * s.val + g.val, by have := s.isLt; have := g.isLt; change _ < 8; omega⟩
  have ht : t.val = 4 * s.val + g.val := rfl
  have hs : s.val = t.val / 4 := by omega
  have hg : g.val = t.val % 4 := by omega
  have key := congrFun (Value.blocks4 m c t (flush4 t)) (ix4 (0 : Fin 1) (0 : Fin 1) r d)
  have h := idx4 t
  refine Eq.trans ?_ (key.trans ?_)
  · refine congrArg ((dats m 0 c).arrAt 4 cfg0.N : FVec Ideal S2x4x512x128 .bf16) ?_
    blk_ext [h, hs, hg]
  · rw [Value.flushed4_A]
    refine (out_apply _ _ _ _ _ _ _ _ _ _ _ _ _ _ _ _ _ _).trans ?_
    have e0 := fun n (e : Fin 128) => blk0 m c t n e (by omega)
    simp only [e0, blk1 m c t s hs, blk2 m c t s hs, blk3 m c t s hs]
    rfl

end Kernel

section Reference
open Cert.Reference10Ideal Cert.Reference10Ideal.Gen

variable (m : (ℓ : Loc nD τ sig) → Buf (Elt Ideal) ℓ) (c : Dev nD)

/-- The reference's keys and values. -/
def refX : FVec Ideal S8192x1024 .f32 := m ((c : Thread nD τ).loc main_arg0)
/-- The reference's embedding of the keys' positions. -/
def refPeK : FVec Ideal S32x128 .f32 := m ((c : Thread nD τ).loc main_arg1)
/-- The reference's first weights of the keys. -/
def refW1K : FVec Ideal S4096x128 .f32 := m ((c : Thread nD τ).loc main_arg2)
/-- The reference's second weights of the keys. -/
def refW2K : FVec Ideal S128x128 .f32 := m ((c : Thread nD τ).loc main_arg3)
/-- The reference's embedding of the values' positions. -/
def refPeV : FVec Ideal S32x128 .f32 := m ((c : Thread nD τ).loc main_arg4)
/-- The reference's first weights of the values. -/
def refW1V : FVec Ideal S4096x128 .f32 := m ((c : Thread nD τ).loc main_arg5)
/-- The reference's second weights of the values. -/
def refW2V : FVec Ideal S128x128 .f32 := m ((c : Thread nD τ).loc main_arg6)

/-- The keys, head by head. -/
def keysOf (x : FVec Ideal S8192x1024 .f32) : FVec Ideal S8192x4x128 .f32 :=
  shapeCast _ (extractStridedSlice S8192x512 ![0, 0] x slices_S8192x1024_S8192x512_0_0) shapeCasts_S8192x512_S8192x4x128

/-- The values, head by head. -/
def valuesOf (x : FVec Ideal S8192x1024 .f32) : FVec Ideal S8192x4x128 .f32 :=
  shapeCast _ (extractStridedSlice S8192x512 ![0, 512] x slices_S8192x1024_S8192x512_0_512) shapeCasts_S8192x512_S8192x4x128

/-- The tokens sixteen on, around the end. -/
def rollOf (kv : FVec Ideal S8192x4x128 .f32) : FVec Ideal S8192x4x128 .f32 :=
  concatenate S8192x4x128 0 [⟨S8176x4x128, extractStridedSlice S8176x4x128 ![16, 0, 0] kv slices_S8192x4x128_S8176x4x128_16_0_0⟩,
    ⟨S16x4x128, extractStridedSlice S16x4x128 ![0, 0, 0] kv slices_S8192x4x128_S16x4x128_0_0_0⟩] concatenates_S8176x4x128_S16x4x128_S8192x4x128_d0

/-- The blocks of 32 tokens, one every sixteen. -/
def blocksOf (kv : FVec Ideal S8192x4x128 .f32) : FVec Ideal S512x32x4x128 .f32 :=
  concatenate S512x32x4x128 1 [⟨S512x16x4x128, shapeCast _ kv shapeCasts_S8192x4x128_S512x16x4x128⟩,
    ⟨S512x16x4x128, shapeCast _ (rollOf kv) shapeCasts_S8192x4x128_S512x16x4x128⟩] concatenates_S512x16x4x128_S512x16x4x128_S512x32x4x128_d1

/-- The blocks with their positions' embeddings, a block a row. -/
def flatOf (kv : FVec Ideal S8192x4x128 .f32) (pe : FVec Ideal S32x128 .f32) : FVec Ideal S4x512x4096 .f32 :=
  shapeCast _ (transpose S4x512x32x128 [2, 0, 1, 3] (addf (blocksOf kv)
    (broadcastInDim S512x32x4x128 ![0, 1, 2, 3] bcast_S1x32x1x128_S512x32x4x128_0_1_2_3 (broadcastInDim S1x32x1x128 ![1, 2, 3] bcast_S32x1x128_S1x32x1x128_1_2_3
      (broadcastInDim S32x1x128 ![0, 2] bcast_S32x128_S32x1x128_0_2 pe)))) transposes_S512x32x4x128_S4x512x32x128_2_0_1_3) shapeCasts_S4x512x32x128_S4x512x4096

/-- The blocks' first products. -/
def preOf (kv : FVec Ideal S8192x4x128 .f32) (pe : FVec Ideal S32x128 .f32) (w1 : FVec Ideal S4096x128 .f32) : FVec Ideal S4x512x128 .f32 :=
  Host.dotGeneral dot_S4x512x4096_S4096x128_S4x512x128_2_0_01_1_n_n none (flatOf kv pe) w1

/-- The activation of every entry. -/
def geluOf (v : FVec Ideal S4x512x128 .f32) : FVec Ideal S4x512x128 .f32 :=
  mulf v (mulf (broadcastInDim S4x512x128 ![] bcast_S_S4x512x128 (constant S_ .f32 0x3F000000#32))
    (addf (broadcastInDim S4x512x128 ![] bcast_S_S4x512x128 (constant S_ .f32 0x3F800000#32))
      (Host.tanh (mulf (broadcastInDim S4x512x128 ![] bcast_S_S4x512x128 (constant S_ .f32 0x3F4C422A#32))
        (addf v (mulf (broadcastInDim S4x512x128 ![] bcast_S_S4x512x128 (constant S_ .f32 0x3D372713#32)) (mulf (mulf v v) v)))))))

/-- One half of the result: the keys' or the values'. -/
def halfOf (kv : FVec Ideal S8192x4x128 .f32) (pe : FVec Ideal S32x128 .f32) (w1 : FVec Ideal S4096x128 .f32) (w2 : FVec Ideal S128x128 .f32) : FVec Ideal S1x4x512x128 .f32 :=
  broadcastInDim S1x4x512x128 ![1, 2, 3] bcast_S4x512x128_S1x4x512x128_1_2_3
    (Host.dotGeneral dot_S4x512x128_S128x128_S4x512x128_2_0_01_1_n_n none (geluOf (preOf kv pe w1)) w2)

/-- The reference's result. -/
def refOut : FVec Ideal S2x4x512x128 .bf16 :=
  truncf .bf16 (concatenate S2x4x512x128 0 [⟨S1x4x512x128, halfOf (keysOf (refX m c)) (refPeK m c) (refW1K m c) (refW2K m c)⟩,
    ⟨S1x4x512x128, halfOf (valuesOf (refX m c)) (refPeV m c) (refW1V m c) (refW2V m c)⟩] concatenates_S1x4x512x128_S1x4x512x128_S2x4x512x128_d0) bitsLt_bf16_f32

theorem keysOf_apply (x : FVec Ideal S8192x1024 .f32) (n : Fin 8192) (g : Fin 4) (e : Fin 128) :
    keysOf x (ix3 n g e) = x (ix2 n ⟨128 * g.val + e.val, by omega⟩) := by
  unfold keysOf
  pointwise
  simp only [Nat.mul_comm 128]

theorem valuesOf_apply (x : FVec Ideal S8192x1024 .f32) (n : Fin 8192) (g : Fin 4) (e : Fin 128) :
    valuesOf x (ix3 n g e) = x (ix2 n ⟨512 + (128 * g.val + e.val), by omega⟩) := by
  unfold valuesOf
  pointwise
  simp only [Nat.mul_comm 128]

set_option maxRecDepth 100000 in
theorem rollOf_apply (kv : FVec Ideal S8192x4x128 .f32) (n : Fin 8192) (g : Fin 4) (e : Fin 128) :
    rollOf kv (ix3 n g e) = kv (ix3 ⟨(n.val + 16) % 8192, Nat.mod_lt _ (by norm_num)⟩ g e) := by
  unfold rollOf
  pointwise
  split
  · refine congrArg (fun k => kv (ix3 k g e)) (Fin.ext ?_)
    dsimp only
    omega
  · refine congrArg (fun k => kv (ix3 k g e)) (Fin.ext ?_)
    dsimp only
    omega

theorem blocksOf_apply (kv : FVec Ideal S8192x4x128 .f32) (r : Fin 512) (l : Fin 32) (g : Fin 4) (e : Fin 128) :
    blocksOf kv (ix4 r l g e) = kv (ix3 ⟨(16 * r.val + l.val) % 8192, Nat.mod_lt _ (by norm_num)⟩ g e) := by
  unfold blocksOf
  pointwise
  split
  · refine congrArg (fun k => kv (ix3 k g e)) (Fin.ext ?_)
    dsimp only
    omega
  · rw [rollOf_apply]
    refine congrArg (fun k => kv (ix3 k g e)) (Fin.ext ?_)
    dsimp only
    omega

theorem flatOf_apply (kv : FVec Ideal S8192x4x128 .f32) (pe : FVec Ideal S32x128 .f32) (g : Fin 4) (r : Fin 512) (l : Fin 32) (e : Fin 128) :
    flatOf kv pe (ix3 g r ⟨128 * l.val + e.val, by omega⟩) = kv (ix3 ⟨(16 * r.val + l.val) % 8192, Nat.mod_lt _ (by norm_num)⟩ g e) + pe (ix2 l e) := by
  have hl : (128 * l.val + e.val) / 128 = l.val := by omega
  have he : (128 * l.val + e.val) % 128 = e.val := by omega
  unfold flatOf
  pointwise
  rw [blocksOf_apply]

theorem preOf_apply (kv : FVec Ideal S8192x4x128 .f32) (pe : FVec Ideal S32x128 .f32) (w1 : FVec Ideal S4096x128 .f32) (g : Fin 4) (r : Fin 512) (d : Fin 128) :
    preOf kv pe w1 (ix3 g r d) = pre (fun n e => kv (ix3 n g e)) (fun l e => pe (ix2 l e)) (fun n d => w1 (ix2 n d)) r d := by
  unfold preOf
  pointwise
  refine Eq.trans ?_ (Finset.sum_congr rfl fun l _ => Finset.sum_congr rfl fun e _ => congrArg (· * w1 (ix2 ⟨128 * l.val + e.val, by omega⟩ d)) (flatOf_apply kv pe g r l e))
  refine ((Equiv.sum_comp (finProdFinEquiv (m := 32) (n := 128)) fun q : Fin 4096 => flatOf kv pe (ix3 g r q) * w1 (ix2 q d)).symm.trans (Fintype.sum_prod_type _)).trans ?_
  refine Finset.sum_congr rfl fun l _ => Finset.sum_congr rfl fun e _ => ?_
  have h : (finProdFinEquiv (l, e) : Fin 4096) = ⟨128 * l.val + e.val, by omega⟩ := Fin.ext (Nat.add_comm _ _)
  rw [h]

theorem geluOf_apply (v : FVec Ideal S4x512x128 .f32) (g : Fin 4) (r : Fin 512) (d : Fin 128) : geluOf v (ix3 g r d) = gelu (v (ix3 g r d)) := by
  unfold geluOf gelu
  pointwise

theorem halfOf_apply (kv : FVec Ideal S8192x4x128 .f32) (pe : FVec Ideal S32x128 .f32) (w1 : FVec Ideal S4096x128 .f32) (w2 : FVec Ideal S128x128 .f32) (g : Fin 4) (r : Fin 512) (d : Fin 128) :
    halfOf kv pe w1 w2 (ix4 0 g r d) = comp (fun n e => kv (ix3 n g e)) (fun l e => pe (ix2 l e)) (fun n d => w1 (ix2 n d)) (fun h d => w2 (ix2 h d)) r d := by
  unfold halfOf
  pointwise
  simp only [geluOf_apply, preOf_apply]
  rfl

/-- The reference's result, entry by entry. -/
theorem reference_apply (s : Fin 2) (g : Fin 4) (r : Fin 512) (d : Fin 128) :
    refOut m c (ix4 s g r d)
      = comp (fun n e => refX m c (ix2 n ⟨128 * (4 * s.val + g.val) + e.val, by omega⟩)) (fun l e => pick (refPeK m c) (refPeV m c) s (ix2 l e))
          (fun n d => pick (refW1K m c) (refW1V m c) s (ix2 n d)) (fun h d => pick (refW2K m c) (refW2V m c) s (ix2 h d)) r d := by
  unfold refOut
  pointwise
  match s with
  | 0 =>
    refine (halfOf_apply _ _ _ _ g r d).trans ?_
    simp only [keysOf_apply]
    refine congrArg (fun x => comp x (fun l e => refPeK m c (ix2 l e)) (fun n d => refW1K m c (ix2 n d)) (fun h d => refW2K m c (ix2 h d)) r d) (funext fun n => funext fun e => ?_)
    refine congrArg (fun k => refX m c (ix2 n k)) (Fin.ext ?_)
    show 128 * g.val + e.val = 128 * (4 * 0 + g.val) + e.val
    omega
  | 1 =>
    refine (halfOf_apply _ _ _ _ g r d).trans ?_
    simp only [valuesOf_apply]
    refine congrArg (fun x => comp x (fun l e => refPeV m c (ix2 l e)) (fun n d => refW1V m c (ix2 n d)) (fun h d => refW2V m c (ix2 h d)) r d) (funext fun n => funext fun e => ?_)
    refine congrArg (fun k => refX m c (ix2 n k)) (Fin.ext ?_)
    show 512 + (128 * g.val + e.val) = 128 * (4 * 1 + g.val) + e.val
    omega

theorem refOut_eq : (refOut m c : FVec Ideal S2x4x512x128 .bf16) = Value.res_out0 m c := rfl

end Reference

/-- From arguments that agree, the kernel's result is the reference's. -/
theorem kernel_eq_reference (m : (ℓ : Loc Cert.Kernel10Ideal.nD Cert.Kernel10Ideal.τ Cert.Kernel10Ideal.sig) → Buf (Elt Ideal) ℓ)
    (c : Dev Cert.Kernel10Ideal.nD)
    (m' : (ℓ : Loc Cert.Reference10Ideal.nD Cert.Reference10Ideal.τ Cert.Reference10Ideal.sig) → Buf (Elt Ideal) ℓ)
    (h0 : argX m c = refX m' c) (h1 : argPeK m c = refPeK m' c) (h2 : argW1K m c = refW1K m' c) (h3 : argW2K m c = refW2K m' c)
    (h4 : argPeV m c = refPeV m' c) (h5 : argW1V m c = refW1V m' c) (h6 : argW2V m c = refW2V m' c) :
    refOut m' c = (Cert.Kernel10Ideal.Gen.dats m 0 c).arrAt 4 Cert.Kernel10Ideal.cfg0.N := by
  refine funext fun i => ?_
  obtain ⟨s, g, r, d, rfl⟩ : ∃ (s : Fin 2) (g : Fin 4) (r : Fin 512) (d : Fin 128), i = ix4 s g r d :=
    ⟨i 0, i 1, i 2, i 3, by funext a; match a with | 0 => rfl | 1 => rfl | 2 => rfl | 3 => rfl⟩
  refine (reference_apply m' c s g r d).trans (Eq.trans ?_ (kernel_apply m c s g r d).symm)
  rw [h0, h1, h2, h3, h4, h5, h6]

end Cert.Proof.Compress
end
-- ==== Proof.Gate.lean ====
module

public import proofs.«01_k».proof.Proof.Gen.Kernel11Ideal.Frame
public import proofs.«01_k».proof.Proof.Gen.Reference11Ideal.Run
public import proofs.«01_k».proof.Proof.Rows
public import Idealize.ShloMosaic.Lib.Pipeline.Value

/-! The gate's logits: 48 columns of the input projection from column 5120 on. The call makes 128 columns, of which the host keeps the first 48. -/

@[expose] public section

set_option maxRecDepth 16384

noncomputable section

namespace Cert.Proof.Gate

open Idealize.ShloMosaic Idealize.ShloMosaic.TcCoe Idealize.SL.Sem Idealize.ShloMosaic.Tactic
open Cert.Proof.Rows
open scoped BigOperators

section Kernel
open Cert.Kernel11Ideal Cert.Kernel11Ideal.Gen

variable (m : (ℓ : Loc nD τ sig) → Buf (Elt Ideal) ℓ) (c : Dev nD)

/-- The normalised activations the launch gave. -/
def argX : FVec Ideal S8192x4096 .bf16 := m ((c : Thread nD τ).loc main_arg0)
/-- The input projection's weights. -/
def argW : FVec Ideal S4096x11312 .f32 := m ((c : Thread nD τ).loc main_arg1)
/-- The block of activations a grid point finds. -/
def xBlock (t : Fin cfg0.N) : FVec Ideal S1024x4096 .bf16 := iblk m c 0 t
/-- The block of weights a grid point finds. -/
def wBlock (t : Fin cfg0.N) : FVec Ideal S4096x128 .bf16 := X0_1 m c t

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 40 := by decide +kernel
theorem idx2 : ∀ t : Fin grid0.N, win0_2.index t (0 : Fin 2) = t.val ∧ win0_2.index t (1 : Fin 2) = 0 := by decide +kernel
theorem flush2 : ∀ t : Fin cfg0.N, (cfg0.win 2).flush t = true := by decide +kernel

/-- The host's cast of the weights is those weights, over the reals. -/
theorem V_w : V m c main_v0 = argW m c := by
  unfold V V0 argW
  simp only [List.flatten_cons, List.flatten_nil, List.append_nil]
  after_results_simp
  rfl

/-- The block of activations at point `t`: the rows of row block `t`. -/
theorem xBlock_apply (t : Fin cfg0.N) (r : Fin 1024) (k : Fin 4096) (hb : 1024 * t.val + r.val < 8192) :
    xBlock m c t (ix2 r k) = argX m c (ix2 ⟨1024 * t.val + r.val, hb⟩ k) := by
  have h := idx0 t
  unfold xBlock
  blk_simp [iblk, V_main_arg0]
  refine (congrFun (V_main_arg0 m c) _).trans (congrArg (argX m c) ?_)
  blk_ext [h]

/-- The block of weights at point `t`: the 128 columns from column 5120 on. -/
theorem wBlock_apply (t : Fin cfg0.N) (k : Fin 4096) (d : Fin 128) :
    wBlock m c t (ix2 k d) = argW m c (ix2 k ⟨5120 + d.val, by omega⟩) := by
  have h := idx1 t
  unfold wBlock X0_1 Pipeline.Window.fill
  rw [dif_pos (moved0_1 t _)]
  blk_simp [iblk]
  refine (congrFun (V_w m c) _).trans (congrArg (argW m c) ?_)
  blk_ext [h]

/-- What the body leaves in the result's buffer at a point, entry by entry, from its two blocks. -/
theorem out_apply (t : Fin cfg0.N) (r : Fin 1024) (d : Fin 128) :
    (outsAt0 m c t : FVec Ideal S1024x128 .f32) (ix2 r d) = ∑ k : Fin 4096, xBlock m c t (ix2 r k) * wBlock m c t (ix2 k d) := by
  unfold outsAt0 xBlock wBlock
  frame_out
  pointwise [k0_pay1]

/-- No two points write the same block of the call's result. -/
theorem idx_inj2 : ∀ t t' : Fin cfg0.N, win0_2.index t = win0_2.index t' → t = t' :=
  (by decide +kernel : ∀ t t' : Fin grid0.N, win0_2.index t = win0_2.index t' → t = t')

/-- What point `t` leaves in its block of the call's result is there at the end. -/
theorem blocks2 (t : Fin cfg0.N) : ((cfg0.win 2).blk t).view.read (Elt Ideal) ((dats m 0 c).arrAt 2 cfg0.N) = (cfg0.win 2).cut (grid0.coords t) (outsAt0 m c t) := by
  refine ((dats m 0 c).read_blk_arrAt_eq_flushed 2 (fun t t' _ _ hne => (cfg0.win 2).disjoint_blk fun h => hne (idx_inj2 t t' h)) cfg0.N t t.isLt (flush2 t)).trans ?_
  show (cfg0.win 2).cut (grid0.coords t) ((dats m 0 c).after 2 t) = _
  rw [after0_2]

/-- The call's result, entry by entry. -/
theorem call_apply (r : Fin 8192) (d : Fin 128) :
    ((dats m 0 c).arrAt 2 cfg0.N : FVec Ideal S8192x128 .f32) (ix2 r d)
      = dot4096 (fun r k => argX m c (ix2 r k)) (fun k (d : Fin 128) => argW m c (ix2 k ⟨5120 + d.val, by omega⟩)) r d := by
  let t : Fin cfg0.N := ⟨r.val / 1024, by have := r.isLt; change _ < 8; omega⟩
  have hr : 1024 * t.val + (inBlock r.val).val = r.val := block_add _ _ rfl
  have h := idx2 t
  refine Eq.trans ?_ ((congrFun (blocks2 m c t) (ix2 (inBlock r.val) d)).trans ?_)
  · refine congrArg ((dats m 0 c).arrAt 2 cfg0.N : FVec Ideal S8192x128 .f32) ?_
    blk_ext [h, hr]
  · refine (out_apply m c t _ _).trans ?_
    refine Finset.sum_congr rfl fun k _ => ?_
    rw [xBlock_apply m c t _ k (by omega), wBlock_apply m c t k _]
    simp only [hr]

/-- The kernel's result: the first 48 columns of what the call leaves. -/
def kernelOut : FVec Ideal S8192x48 .f32 :=
  extractStridedSlice S8192x48 ![0, 0] ((dats m 0 c).arrAt 2 cfg0.N : FVec Ideal S8192x128 .f32) slices_S8192x128_S8192x48_0_0

/-- The kernel's result, entry by entry. -/
theorem kernel_apply (r : Fin 8192) (d : Fin 48) :
    kernelOut m c (ix2 r d)
      = dot4096 (fun r k => argX m c (ix2 r k)) (fun k (d : Fin 48) => argW m c (ix2 k ⟨5120 + d.val, by omega⟩)) r d := by
  unfold kernelOut
  pointwise
  exact call_apply m c r ⟨d.val, by omega⟩

/-- The windows are on three arrays. -/
theorem arr_inj : Function.Injective (Pipeline.arrRef spec0) := by decide

/-- The slice after the call, from what the call leaves. -/
theorem slice_after : Pipeline.afterTail₀ cfgs (dats m) 0 (V0 m) [hostOps1] c main_v2 = kernelOut m c := by
  have h := Pipeline.withArrays_arr spec0 arr_inj c (V0 m c) (fun w => (dats m 0 c).arrAt w cfg0.N) 2
  unfold Pipeline.afterTail₀ kernelOut
  simp only [List.flatten_cons, List.flatten_nil, List.append_nil]
  after_results_simp
  exact congrArg (fun x : FVec Ideal S8192x128 .f32 => extractStridedSlice S8192x48 ![0, 0] x slices_S8192x128_S8192x48_0_0) h

/-- Every run of the kernel ends with its result in place and its arguments as they were. -/
theorem run (ρ : Dev nD → PrngReg) : θ_run defs (onTc (τ := τ) (main (F := Ideal))) ⟨m, fun _ => 0, ρ⟩ fun r => ∀ c : Dev nD,
      r.2.mem ((c : Thread nD τ).loc main_v2) = kernelOut m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v2 (Pipeline.mem_restRefs_of main_v2 (by decide) (by decide))).trans (slice_after m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩) (run_main m ρ)

end Kernel

section Reference
open Cert.Reference11Ideal Cert.Reference11Ideal.Gen

variable (m : (ℓ : Loc nD τ sig) → Buf (Elt Ideal) ℓ) (c : Dev nD)

/-- The reference's normalised activations. -/
def refX : FVec Ideal S8192x4096 .bf16 := m ((c : Thread nD τ).loc main_arg0)
/-- The reference's weights. -/
def refW : FVec Ideal S4096x11312 .f32 := m ((c : Thread nD τ).loc main_arg1)

/-- The reference's result: the activations times those columns of the weights. -/
def refOut : FVec Ideal S8192x48 .f32 :=
  Host.dotGeneral dot_S8192x4096_S4096x48_S8192x48_1_0_0_1_n_n none (extf .f32 (refX m c) bitsLt_bf16_f32) (extractStridedSlice S4096x48 ![0, 5120] (refW m c) slices_S4096x11312_S4096x48_0_5120)

/-- The reference's result, entry by entry. -/
theorem reference_apply (r : Fin 8192) (d : Fin 48) :
    refOut m c (ix2 r d)
      = dot4096 (fun r k => refX m c (ix2 r k)) (fun k (d : Fin 48) => refW m c (ix2 k ⟨5120 + d.val, by omega⟩)) r d := by
  unfold refOut dot4096
  pointwise

end Reference

/-- From arguments that agree, the kernel's result is the reference's. -/
theorem kernel_eq_reference (m : (ℓ : Loc Cert.Kernel11Ideal.nD Cert.Kernel11Ideal.τ Cert.Kernel11Ideal.sig) → Buf (Elt Ideal) ℓ)
    (c : Dev Cert.Kernel11Ideal.nD)
    (m' : (ℓ : Loc Cert.Reference11Ideal.nD Cert.Reference11Ideal.τ Cert.Reference11Ideal.sig) → Buf (Elt Ideal) ℓ)
    (h0 : argX m c = refX m' c) (h1 : argW m c = refW m' c) :
    refOut m' c = kernelOut m c := by
  refine funext fun i => ?_
  obtain ⟨r, d, rfl⟩ : ∃ (r : Fin 8192) (d : Fin 48), i = ix2 r d := ⟨i 0, i 1, by funext a; match a with | 0 => rfl | 1 => rfl⟩
  refine (reference_apply m' c r d).trans (Eq.trans ?_ (kernel_apply m c r d).symm)
  rw [h0, h1]

end Cert.Proof.Gate
end
-- ==== Proof.lean ====
/- The proof of the certificate's claims: the frames of each program from the generated modules, each value claim by the
   equation, proved in the modules under Proof/, between what the kernel's launch leaves and what the reference leaves. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.MlpValue
public import proofs.«01_k».proof.Proof.ConvValue
public import proofs.«01_k».proof.Proof.ConvBits
public import proofs.«01_k».proof.Proof.Query
public import proofs.«01_k».proof.Proof.CompressKV
public import proofs.«01_k».proof.Proof.SelectKV
public import proofs.«01_k».proof.Proof.OutProj
public import proofs.«01_k».proof.Proof.Memory
public import proofs.«01_k».proof.Proof.MemoryKV
public import proofs.«01_k».proof.Proof.Norm
public import proofs.«01_k».proof.Proof.Compress
public import proofs.«01_k».proof.Proof.Gate
public import Idealize.ShloMosaic.Adequacy
public import Idealize.ShloMosaic.Init
public import Idealize.ShloMosaic.Lib.Quiescent

@[expose] public section

noncomputable section

namespace Cert.Proof

open Idealize.ShloMosaic Idealize.SL.Sem

/-- The reference of the MLP finishes and leaves its arguments as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel of the MLP and its reference leave the same array, over the reals. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4⟩ := hagree c
  exact Mlp.kernel_eq_reference m c m' h0 h1 h2 h3 h4

/-- The reference of the gated convolution finishes and leaves its arguments as they were. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From equal arguments the kernel of the gated convolution and its reference leave the same array, over the reals. -/
theorem algebraic_Kernel2Ideal_Reference2Ideal : algebraic_Kernel2Ideal_Reference2Ideal := by
  intro m ρ m' ρ' _ hagree
  refine ⟨_, Conv.run (F := Ideal) m ρ, ?_⟩
  refine (θ_run Cert.Reference2Ideal.defs _ _).mono (fun _ h c => ⟨?_, (h c).2⟩) (Cert.Reference2Ideal.Value.run (F := Ideal) m' ρ')
  rw [(h c).1]
  obtain ⟨h0, h1, h2⟩ := hagree c
  exact Conv.kernel_eq_reference m c m' h0.symm h1.symm h2.symm

/-- The reference of the query projection finishes and leaves its arguments as they were. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- From equal arguments the kernel of the query projection and its reference leave the same array, over the reals. -/
theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  obtain ⟨h0, h1⟩ := hagree c
  exact Query.kernel_eq_reference m c m' h0.symm h1.symm

/-- The reference of the projection to the compressed keys and values finishes and leaves its arguments as they were. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- From equal arguments the kernel of the projection to the compressed keys and values and its reference leave the same array, over the reals. -/
theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1]
  obtain ⟨h0, h1⟩ := hagree c
  exact CompressKV.kernel_eq_reference m c m' h0.symm h1.symm

/-- The reference of the projection to the other keys and values finishes and leaves its arguments as they were. -/
theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- From equal arguments the kernel of the projection to the other keys and values and its reference leave the same array, over the reals. -/
theorem algebraic_Kernel5Ideal_Reference5Ideal : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1]
  obtain ⟨h0, h1⟩ := hagree c
  exact SelectKV.kernel_eq_reference m c m' h0.symm h1.symm

/-- The reference of the output projection finishes and leaves its arguments as they were. -/
theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- From equal arguments the kernel of the output projection and its reference leave the same array, over the reals. -/
theorem algebraic_Kernel6Ideal_Reference6Ideal : algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  rw [(h c).1]
  obtain ⟨h0, h1, h2⟩ := hagree c
  exact OutProj.kernel_eq_reference m c m' h0.symm h1.symm h2.symm

/-- The reference of the memory sublayer finishes and leaves its arguments as they were. -/
theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- From equal arguments from which every score is finite the kernel of the memory sublayer and its reference leave the same array, over the reals. -/
theorem algebraic_Kernel7Ideal_Reference7Ideal_pre_finite_scores :
    algebraic_Kernel7Ideal_Reference7Ideal_pre_finite_scores (hPre_finite_scores := Memory.pre_facts) := by
  haveI := Memory.pre_facts
  intro m ρ m' ρ' hpre hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  rw [(h c).1]
  obtain ⟨h0, h1, h2, h3, h4, h5, h6, h7⟩ := hagree c
  exact Memory.kernel_eq_reference m c m' (hpre c) h0.symm h1.symm h2.symm h3.symm h4.symm h5.symm h6.symm h7.symm

/-- The reference of the memory projection finishes and leaves its arguments as they were. -/
theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- From equal arguments the kernel of the memory projection and its reference leave the same array, over the reals. -/
theorem algebraic_Kernel8Ideal_Reference8Ideal : algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨?_, (h c).2⟩) (Cert.Reference8Ideal.Value.run (F := Ideal) m' ρ')
  rw [(h c).1]
  obtain ⟨h0, h1, h2⟩ := hagree c
  exact MemoryKV.kernel_eq_reference m c m' h0.symm h1.symm h2.symm

/-- The reference of the normalisation finishes and leaves its arguments as they were. -/
theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- From equal arguments the kernel of the normalisation and its reference leave the same array, over the reals. -/
theorem algebraic_Kernel9Ideal_Reference9Ideal : algebraic_Kernel9Ideal_Reference9Ideal := by
  intro m ρ m' ρ' _ hagree
  refine ⟨_, Cert.Kernel9Ideal.Value.run_blocks (F := Ideal) m ρ, ?_⟩
  refine (θ_run Cert.Reference9Ideal.defs _ _).mono (fun _ h c => ⟨?_, (h c).2⟩) (Cert.Reference9Ideal.Value.run (F := Ideal) m' ρ')
  rw [(h c).1]
  obtain ⟨h0, h1⟩ := hagree c
  exact Norm.kernel_eq_reference m c m' h0.symm h1.symm

/-- The reference of the compression of keys and values finishes and leaves its arguments as they were. -/
theorem quiescent_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- From equal arguments the kernel of the compression of keys and values and its reference leave the same array, over the reals. -/
theorem algebraic_Kernel10Ideal_Reference10Ideal : algebraic_Kernel10Ideal_Reference10Ideal := by
  intro m ρ m' ρ' _ hagree
  refine ⟨_, Cert.Kernel10Ideal.Value.run_blocks (F := Ideal) m ρ, ?_⟩
  refine (θ_run Cert.Reference10Ideal.defs _ _).mono (fun _ h c => ⟨?_, (h c).2⟩) (Cert.Reference10Ideal.Value.run (F := Ideal) m' ρ')
  rw [(h c).1]
  obtain ⟨h0, h1, h2, h3, h4, h5, h6⟩ := hagree c
  exact Compress.kernel_eq_reference m c m' h0.symm h1.symm h2.symm h3.symm h4.symm h5.symm h6.symm

/-- The reference of the gate's columns finishes and leaves its arguments as they were. -/
theorem quiescent_Reference11Ideal : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- From equal arguments the kernel of the gate's columns and its reference leave the same array, over the reals. -/
theorem algebraic_Kernel11Ideal_Reference11Ideal : algebraic_Kernel11Ideal_Reference11Ideal := by
  intro m ρ m' ρ' _ hagree
  refine ⟨_, Gate.run m ρ, ?_⟩
  refine (θ_run Cert.Reference11Ideal.defs _ _).mono (fun _ h c => ⟨?_, (h c).2⟩) (Cert.Reference11Ideal.Value.run (F := Ideal) m' ρ')
  rw [(h c).1]
  obtain ⟨h0, h1⟩ := hagree c
  exact Gate.kernel_eq_reference m c m' h0.symm h1.symm

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Memory.pre_facts,
    fun m ρ _ => Cert.Kernel.Gen.frame m ρ, fun m ρ _ => Cert.KernelIdeal.Gen.frame m ρ, quiescent_ReferenceIdeal,
    Conv.bits_frame, fun m ρ _ => Conv.frame m ρ, quiescent_Reference2Ideal,
    fun m ρ _ => Cert.Kernel3.Gen.frame m ρ, fun m ρ _ => Cert.Kernel3Ideal.Gen.frame m ρ, quiescent_Reference3Ideal,
    fun m ρ _ => Cert.Kernel4.Gen.frame m ρ, fun m ρ _ => Cert.Kernel4Ideal.Gen.frame m ρ, quiescent_Reference4Ideal,
    fun m ρ _ => Cert.Kernel5.Gen.frame m ρ, fun m ρ _ => Cert.Kernel5Ideal.Gen.frame m ρ, quiescent_Reference5Ideal,
    fun m ρ _ => Cert.Kernel6.Gen.frame m ρ, fun m ρ _ => Cert.Kernel6Ideal.Gen.frame m ρ, quiescent_Reference6Ideal,
    fun m ρ _ => Cert.Kernel7.Gen.frame m ρ, fun m ρ _ => Cert.Kernel7Ideal.Gen.frame m ρ,
    fun m ρ _ => Cert.Kernel7Ideal.Gen.frame m ρ, quiescent_Reference7Ideal, fun m ρ _ => quiescent_Reference7Ideal m ρ trivial,
    fun m ρ _ => Cert.Kernel8.Gen.frame m ρ, fun m ρ _ => Cert.Kernel8Ideal.Gen.frame m ρ, quiescent_Reference8Ideal,
    fun m ρ _ => Cert.Kernel9.Gen.frame m ρ, fun m ρ _ => Cert.Kernel9Ideal.Gen.frame m ρ, quiescent_Reference9Ideal,
    fun m ρ _ => Cert.Kernel10.Gen.frame m ρ, fun m ρ _ => Cert.Kernel10Ideal.Gen.frame m ρ, quiescent_Reference10Ideal,
    fun m ρ _ => Cert.Kernel11.Gen.frame m ρ, fun m ρ _ => Cert.Kernel11Ideal.Gen.frame m ρ, quiescent_Reference11Ideal,
    (trivial : preserves_Kernel_KernelIdeal), algebraic_KernelIdeal_ReferenceIdeal,
    (trivial : preserves_Kernel2_Kernel2Ideal), algebraic_Kernel2Ideal_Reference2Ideal,
    (trivial : preserves_Kernel3_Kernel3Ideal), algebraic_Kernel3Ideal_Reference3Ideal,
    (trivial : preserves_Kernel4_Kernel4Ideal), algebraic_Kernel4Ideal_Reference4Ideal,
    (trivial : preserves_Kernel5_Kernel5Ideal), algebraic_Kernel5Ideal_Reference5Ideal,
    (trivial : preserves_Kernel6_Kernel6Ideal), algebraic_Kernel6Ideal_Reference6Ideal,
    (trivial : preserves_Kernel7_Kernel7Ideal), algebraic_Kernel7Ideal_Reference7Ideal_pre_finite_scores,
    (trivial : preserves_Kernel8_Kernel8Ideal), algebraic_Kernel8Ideal_Reference8Ideal,
    (trivial : preserves_Kernel9_Kernel9Ideal), algebraic_Kernel9Ideal_Reference9Ideal,
    (trivial : preserves_Kernel10_Kernel10Ideal), algebraic_Kernel10Ideal_Reference10Ideal,
    (trivial : preserves_Kernel11_Kernel11Ideal), algebraic_Kernel11Ideal_Reference11Ideal⟩

end Cert.Proof

end
